-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_scales [hPre_normal_scales : Cert.Pre_normal_scales.Facts] (m : (ℓ : Loc Cert.KernelIdeal.nD Cert.KernelIdeal.τ Cert.KernelIdeal.sig) → Buf (Elt Ideal) ℓ) : Prop :=
  ∀ c : Dev Cert.KernelIdeal.nD,
    (Cert.Pre_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_scales [hPre_normal_scales : Cert.Pre_normal_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_normal_scales [hKernelIdeal : Cert.KernelIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_normal_scales [hReferenceIdeal : Cert.ReferenceIdeal.Facts] [hPre_normal_scales : Cert.Pre_normal_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_normal_scales [hKernelIdeal : Cert.KernelIdeal.Facts] [hReferenceIdeal : Cert.ReferenceIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_normal_scales : Cert.Pre_normal_scales.Facts),
    quiescent_Kernel (hKernel := hKernel)
    ∧ quiescent_KernelIdeal (hKernelIdeal := hKernelIdeal)
    ∧ quiescent_KernelIdeal_pre_normal_scales (hKernelIdeal := hKernelIdeal) (hPre_normal_scales := hPre_normal_scales)
    ∧ quiescent_ReferenceIdeal (hReferenceIdeal := hReferenceIdeal)
    ∧ quiescent_ReferenceIdeal_pre_normal_scales (hReferenceIdeal := hReferenceIdeal) (hPre_normal_scales := hPre_normal_scales)
    ∧ preserves_Kernel_KernelIdeal
    ∧ algebraic_KernelIdeal_ReferenceIdeal_pre_normal_scales (hKernelIdeal := hKernelIdeal) (hReferenceIdeal := hReferenceIdeal) (hPre_normal_scales := hPre_normal_scales)
-- ==== Pre_normal_scales.lean ====
abbrev S1024x3x8192 : Shape := ⟨3, ![1024, 3, 8192]⟩
abbrev S1 : Shape := ⟨1, ![1]⟩
abbrev S1x1024x3 : Shape := ⟨3, ![1, 1024, 3]⟩
abbrev S8192 : Shape := ⟨1, ![8192]⟩
abbrev S_ : Shape := ⟨0, ![]⟩
abbrev S1024x3 : Shape := ⟨2, ![1024, 3]⟩
abbrev S1024x3x1 : Shape := ⟨3, ![1024, 3, 1]⟩
abbrev S1x1x8192 : Shape := ⟨3, ![1, 1, 8192]⟩
abbrev S1024x3x64x128 : Shape := ⟨4, ![1024, 3, 64, 128]⟩
abbrev S1024x3x64 : Shape := ⟨3, ![1024, 3, 64]⟩

class Facts : Prop where
  bitsLt_bf16_f32 : FTy.bits .bf16 < FTy.bits .f32
  reducesTo_S1024x3x8192_S1024x3_d2 : S1024x3x8192.ReducesTo [2] S1024x3
  h_S_ : 0 < S_.numel
  bcast_S_S1024x3 : S_.BroadcastsInDim S1024x3 (![] : Fin 0 → Fin S1024x3.rank)
  bcast_S1024x3_S1024x3x1_0_1 : S1024x3.BroadcastsInDim S1024x3x1 (![0, 1] : Fin 2 → Fin S1024x3x1.rank)
  bcast_S1024x3x1_S1024x3x8192_0_1_2 : S1024x3x1.BroadcastsInDim S1024x3x8192 (![0, 1, 2] : Fin 3 → Fin S1024x3x8192.rank)
  shapeCasts_S1_S_ : S1.ShapeCasts S_
  shapeCasts_S1x1024x3_S1024x3 : S1x1024x3.ShapeCasts S1024x3
  bcast_S8192_S1x1x8192_2 : S8192.BroadcastsInDim S1x1x8192 (![2] : Fin 1 → Fin S1x1x8192.rank)
  bcast_S1x1x8192_S1024x3x8192_0_1_2 : S1x1x8192.BroadcastsInDim S1024x3x8192 (![0, 1, 2] : Fin 3 → Fin S1024x3x8192.rank)
  shapeCasts_S1024x3x8192_S1024x3x64x128 : S1024x3x8192.ShapeCasts S1024x3x64x128
  reducesTo_S1024x3x64x128_S1024x3x64_d3 : S1024x3x64x128.ReducesTo [3] S1024x3x64
  bcast_S_S1024x3x64 : S_.BroadcastsInDim S1024x3x64 (![] : Fin 0 → Fin S1024x3x64.rank)

variable [Facts]

def fn_part2 {F : FTy → Type} [FloatOps F] (main_v38 : FVec F S1024x3x8192 .f32) (main_v40 : FVec F S1024x3x8192 .f32) : IVec S1024x3x64 1 :=
  let main_v41 : FVec F S1024x3x8192 .f32 := addf main_v38 main_v40
  let main_v42 : FVec F S1024x3x64x128 .f32 := shapeCast S1024x3x64x128 main_v41 shapeCasts_S1024x3x8192_S1024x3x64x128
  let main_v43 : FVec F S1024x3x64x128 .f32 := Host.absf main_v42
  let main_cst_6 : FVec F S_ .f32 := constant S_ .f32 0xFF800000#32
  let main_v44 : FVec F S1024x3x64 .f32 := (fun x v => Host.reduce FloatOps.maximumf x v reducesTo_S1024x3x64x128_S1024x3x64_d3 h_S_) main_v43 main_cst_6
  let main_cst_7 : FVec F S_ .f32 := constant S_ .f32 0x3B124925#32
  let main_v45 : FVec F S1024x3x64 .f32 := broadcastInDim S1024x3x64 ![] bcast_S_S1024x3x64 main_cst_7
  let main_v46 : FVec F S1024x3x64 .f32 := mulf main_v44 main_v45
  let main_cst_8 : FVec F S_ .f32 := constant S_ .f32 0x00000000#32
  let main_v47 : FVec F S1024x3x64 .f32 := broadcastInDim S1024x3x64 ![] bcast_S_S1024x3x64 main_cst_8
  let main_v48 : IVec S1024x3x64 1 := cmpf .oeq main_v44 main_v47
  let main_cst_9 : FVec F S_ .f32 := constant S_ .f32 0x00800000#32
  let main_v49 : FVec F S1024x3x64 .f32 := broadcastInDim S1024x3x64 ![] bcast_S_S1024x3x64 main_cst_9
  let main_v50 : IVec S1024x3x64 1 := cmpf .oge main_v46 main_v49
  let main_cst_10 : FVec F S_ .f32 := constant S_ .f32 0x7E800000#32
  let main_v51 : FVec F S1024x3x64 .f32 := broadcastInDim S1024x3x64 ![] bcast_S_S1024x3x64 main_cst_10
  let main_v52 : IVec S1024x3x64 1 := cmpf .olt main_v46 main_v51
  let main_v53 : IVec S1024x3x64 1 := andi main_v50 main_v52
  let main_v54 : IVec S1024x3x64 1 := ori main_v48 main_v53
  main_v54

def fn_part1 {F : FTy → Type} [FloatOps F] (main_arg4 : FVec F S8192 .f32) (main_arg5 : FVec F S8192 .f32) (main_v0 : FVec F S1024x3x8192 .f32) (main_v9 : FVec F S_ .f32) (main_v12 : FVec F S_ .f32) (main_v13 : FVec F S1024x3 .f32) (main_v17 : FVec F S1024x3 .f32) (main_v18 : FVec F S1024x3 .f32) : IVec S1024x3x64 1 :=
  let main_v19 : FVec F S1024x3 .f32 := mulf main_v13 main_v13
  let main_cst_4 : FVec F S_ .f32 := constant S_ .f32 0x46000000#32
  let main_v20 : FVec F S_ .f32 := mulf main_v9 main_cst_4
  let main_v21 : FVec F S_ .f32 := Host.divf main_v20 main_v12
  let main_v22 : FVec F S1024x3 .f32 := broadcastInDim S1024x3 ![] bcast_S_S1024x3 main_v21
  let main_v23 : FVec F S1024x3 .f32 := mulf main_v19 main_v22
  let main_v24 : FVec F S1024x3 .f32 := addf main_v18 main_v23
  let main_v25 : FVec F S1024x3 .f32 := broadcastInDim S1024x3 ![] bcast_S_S1024x3 main_v12
  let main_v26 : FVec F S1024x3 .f32 := Host.divf main_v24 main_v25
  let main_cst_5 : FVec F S_ .f32 := constant S_ .f32 0x3727C5AC#32
  let main_v27 : FVec F S1024x3 .f32 := broadcastInDim S1024x3 ![] bcast_S_S1024x3 main_cst_5
  let main_v28 : FVec F S1024x3 .f32 := addf main_v26 main_v27
  let main_v29 : FVec F S1024x3 .f32 := Host.rsqrt main_v28
  let main_v30 : FVec F S1024x3x1 .f32 := broadcastInDim S1024x3x1 ![0, 1] bcast_S1024x3_S1024x3x1_0_1 main_v17
  let main_v31 : FVec F S1024x3x8192 .f32 := broadcastInDim S1024x3x8192 ![0, 1, 2] bcast_S1024x3x1_S1024x3x8192_0_1_2 main_v30
  let main_v32 : FVec F S1024x3x8192 .f32 := subf main_v0 main_v31
  let main_v33 : FVec F S1024x3x1 .f32 := broadcastInDim S1024x3x1 ![0, 1] bcast_S1024x3_S1024x3x1_0_1 main_v29
  let main_v34 : FVec F S1024x3x8192 .f32 := broadcastInDim S1024x3x8192 ![0, 1, 2] bcast_S1024x3x1_S1024x3x8192_0_1_2 main_v33
  let main_v35 : FVec F S1024x3x8192 .f32 := mulf main_v32 main_v34
  let main_v36 : FVec F S1x1x8192 .f32 := broadcastInDim S1x1x8192 ![2] bcast_S8192_S1x1x8192_2 main_arg4
  let main_v37 : FVec F S1024x3x8192 .f32 := broadcastInDim S1024x3x8192 ![0, 1, 2] bcast_S1x1x8192_S1024x3x8192_0_1_2 main_v36
  let main_v38 : FVec F S1024x3x8192 .f32 := mulf main_v35 main_v37
  let main_v39 : FVec F S1x1x8192 .f32 := broadcastInDim S1x1x8192 ![2] bcast_S8192_S1x1x8192_2 main_arg5
  let main_v40 : FVec F S1024x3x8192 .f32 := broadcastInDim S1024x3x8192 ![0, 1, 2] bcast_S1x1x8192_S1024x3x8192_0_1_2 main_v39
  fn_part2 (F := F) main_v38 main_v40

def fn {F : FTy → Type} [FloatOps F] (main_arg0 : FVec F S1024x3x8192 .bf16) (main_arg1 : FVec F S1 .f32) (main_arg2 : FVec F S1x1024x3 .f32) (main_arg3 : FVec F S1x1024x3 .f32) (main_arg4 : FVec F S8192 .f32) (main_arg5 : FVec F S8192 .f32) : IVec S1024x3x64 1 :=
  let main_v0 : FVec F S1024x3x8192 .f32 := (extf .f32 · bitsLt_bf16_f32) main_arg0
  let main_cst : FVec F S_ .f32 := constant S_ .f32 0x00000000#32
  let main_v1 : FVec F S1024x3 .f32 := (fun x v => Host.reduceAdd x v reducesTo_S1024x3x8192_S1024x3_d2 h_S_) main_v0 main_cst
  let main_cst_0 : FVec F S_ .f32 := constant S_ .f32 0x46000000#32
  let main_v2 : FVec F S1024x3 .f32 := broadcastInDim S1024x3 ![] bcast_S_S1024x3 main_cst_0
  let main_v3 : FVec F S1024x3 .f32 := Host.divf main_v1 main_v2
  let main_v4 : FVec F S1024x3x1 .f32 := broadcastInDim S1024x3x1 ![0, 1] bcast_S1024x3_S1024x3x1_0_1 main_v3
  let main_v5 : FVec F S1024x3x8192 .f32 := broadcastInDim S1024x3x8192 ![0, 1, 2] bcast_S1024x3x1_S1024x3x8192_0_1_2 main_v4
  let main_v6 : FVec F S1024x3x8192 .f32 := subf main_v0 main_v5
  let main_v7 : FVec F S1024x3x8192 .f32 := mulf main_v6 main_v6
  let main_cst_1 : FVec F S_ .f32 := constant S_ .f32 0x00000000#32
  let main_v8 : FVec F S1024x3 .f32 := (fun x v => Host.reduceAdd x v reducesTo_S1024x3x8192_S1024x3_d2 h_S_) main_v7 main_cst_1
  let main_v9 : FVec F S_ .f32 := shapeCast S_ main_arg1 shapeCasts_S1_S_
  let main_v10 : FVec F S1024x3 .f32 := shapeCast S1024x3 main_arg2 shapeCasts_S1x1024x3_S1024x3
  let main_v11 : FVec F S1024x3 .f32 := shapeCast S1024x3 main_arg3 shapeCasts_S1x1024x3_S1024x3
  let main_cst_2 : FVec F S_ .f32 := constant S_ .f32 0x46000000#32
  let main_v12 : FVec F S_ .f32 := addf main_v9 main_cst_2
  let main_v13 : FVec F S1024x3 .f32 := subf main_v3 main_v10
  let main_cst_3 : FVec F S_ .f32 := constant S_ .f32 0x46000000#32
  let main_v14 : FVec F S_ .f32 := Host.divf main_cst_3 main_v12
  let main_v15 : FVec F S1024x3 .f32 := broadcastInDim S1024x3 ![] bcast_S_S1024x3 main_v14
  let main_v16 : FVec F S1024x3 .f32 := mulf main_v13 main_v15
  let main_v17 : FVec F S1024x3 .f32 := addf main_v10 main_v16
  let main_v18 : FVec F S1024x3 .f32 := addf main_v11 main_v8
  fn_part1 (F := F) main_arg4 main_arg5 main_v0 main_v9 main_v12 main_v13 main_v17 main_v18
-- ==== Kernel.lean ====
abbrev S1024x3x8192 : Shape := ⟨3, ![1024, 3, 8192]⟩
abbrev S1 : Shape := ⟨1, ![1]⟩
abbrev S1x1024x3 : Shape := ⟨3, ![1, 1024, 3]⟩
abbrev S8192 : Shape := ⟨1, ![8192]⟩
abbrev S3x1024x8192 : Shape := ⟨3, ![3, 1024, 8192]⟩
abbrev S3072x8192 : Shape := ⟨2, ![3072, 8192]⟩
abbrev S3x1x1024 : Shape := ⟨3, ![3, 1, 1024]⟩
abbrev S1x8192 : Shape := ⟨2, ![1, 8192]⟩
abbrev S3x64x1024 : Shape := ⟨3, ![3, 64, 1024]⟩
abbrev S128x8192 : Shape := ⟨2, ![128, 8192]⟩
abbrev S1x1x128 : Shape := ⟨3, ![1, 1, 128]⟩
abbrev S1x64x128 : Shape := ⟨3, ![1, 64, 128]⟩
abbrev S128x128 : Shape := ⟨2, ![128, 128]⟩
abbrev S1x128 : Shape := ⟨2, ![1, 128]⟩
abbrev S8x128 : Shape := ⟨2, ![8, 128]⟩
abbrev S128x8 : Shape := ⟨2, ![128, 8]⟩
abbrev S128x1 : Shape := ⟨2, ![128, 1]⟩
abbrev S32x128 : Shape := ⟨2, ![32, 128]⟩
abbrev S32x256 : Shape := ⟨2, ![32, 256]⟩
abbrev S32 : Shape := ⟨1, ![32]⟩
abbrev S32x1 : Shape := ⟨2, ![32, 1]⟩
abbrev S1x256 : Shape := ⟨2, ![1, 256]⟩
abbrev S64x128 : Shape := ⟨2, ![64, 128]⟩
abbrev S128x2 : Shape := ⟨2, ![128, 2]⟩
abbrev S128x126 : Shape := ⟨2, ![128, 126]⟩
abbrev S1024x3x64 : Shape := ⟨3, ![1024, 3, 64]⟩
abbrev S3x1024 : Shape := ⟨2, ![3, 1024]⟩
abbrev S1024x3 : Shape := ⟨2, ![1024, 3]⟩

abbrev nBuf : Space → Nat
  | .hbm => 23
  | .vmem => 17
  | .smem => 1
  | _ => 0

abbrev bufTy : (tb : Table) → Fin (tcTables nBuf tb) → BufTy
  | .hbm, ⟨0, _⟩ => ⟨S1024x3x8192, .bf16⟩
  | .hbm, ⟨1, _⟩ => ⟨S1, .f32⟩
  | .hbm, ⟨2, _⟩ => ⟨S1x1024x3, .f32⟩
  | .hbm, ⟨3, _⟩ => ⟨S1x1024x3, .f32⟩
  | .hbm, ⟨4, _⟩ => ⟨S8192, .f32⟩
  | .hbm, ⟨5, _⟩ => ⟨S8192, .f32⟩
  | .hbm, ⟨6, _⟩ => ⟨S3x1024x8192, .bf16⟩
  | .hbm, ⟨7, _⟩ => ⟨S3072x8192, .bf16⟩
  | .hbm, ⟨8, _⟩ => ⟨S3x1x1024, .f32⟩
  | .hbm, ⟨9, _⟩ => ⟨S3x1x1024, .f32⟩
  | .hbm, ⟨10, _⟩ => ⟨S1x8192, .f32⟩
  | .hbm, ⟨11, _⟩ => ⟨S1x8192, .f32⟩
  | .hbm, ⟨12, _⟩ => ⟨S3072x8192, .fp8e4m3⟩
  | .hbm, ⟨13, _⟩ => ⟨S3x64x1024, .f32⟩
  | .hbm, ⟨14, _⟩ => ⟨S3x1x1024, .f32⟩
  | .hbm, ⟨15, _⟩ => ⟨S3x1x1024, .f32⟩
  | .hbm, ⟨16, _⟩ => ⟨S3x1024x8192, .fp8e4m3⟩
  | .hbm, ⟨17, _⟩ => ⟨S1024x3x8192, .fp8e4m3⟩
  | .hbm, ⟨18, _⟩ => ⟨S1024x3x64, .f32⟩
  | .hbm, ⟨19, _⟩ => ⟨S3x1024, .f32⟩
  | .hbm, ⟨20, _⟩ => ⟨S1024x3, .f32⟩
  | .hbm, ⟨21, _⟩ => ⟨S3x1024, .f32⟩
  | .hbm, ⟨22, _⟩ => ⟨S1024x3, .f32⟩
  | .local _ .vmem, ⟨0, _⟩ => ⟨S128x8192, .bf16⟩
  | .local _ .vmem, ⟨1, _⟩ => ⟨S128x8192, .bf16⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x8192, .f32⟩
  | .local _ .vmem, ⟨7, _⟩ => ⟨S1x8192, .f32⟩
  | .local _ .vmem, ⟨8, _⟩ => ⟨S128x8192, .fp8e4m3⟩
  | .local _ .vmem, ⟨9, _⟩ => ⟨S128x8192, .fp8e4m3⟩
  | .local _ .vmem, ⟨10, _⟩ => ⟨S1x64x128, .f32⟩
  | .local _ .vmem, ⟨11, _⟩ => ⟨S1x64x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S128x128, .f32⟩
  | .local _ .smem, ⟨0, _⟩ => ⟨S1, .f32⟩
  | _, _ => ⟨S1024x3x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![24], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x8192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1024x3x8192 : Shape := ⟨3, ![1024, 3, 8192]⟩
abbrev S1 : Shape := ⟨1, ![1]⟩
abbrev S1x1024x3 : Shape := ⟨3, ![1, 1024, 3]⟩
abbrev S8192 : Shape := ⟨1, ![8192]⟩
abbrev S_ : Shape := ⟨0, ![]⟩
abbrev S1024x3 : Shape := ⟨2, ![1024, 3]⟩
abbrev S1024x3x1 : Shape := ⟨3, ![1024, 3, 1]⟩
abbrev S1x1x8192 : Shape := ⟨3, ![1, 1, 8192]⟩
abbrev S1024x3x64x128 : Shape := ⟨4, ![1024, 3, 64, 128]⟩
abbrev S1024x3x64 : Shape := ⟨3, ![1024, 3, 64]⟩
abbrev S1024x3x64x1 : Shape := ⟨4, ![1024, 3, 64, 1]⟩

abbrev nBuf : Space → Nat
  | .hbm => 95
  | .vmem => 2
  | .smem => 0
  | _ => 0

abbrev bufTy : (tb : Table) → Fin (tcTables nBuf tb) → BufTy
  | .hbm, ⟨0, _⟩ => ⟨S1024x3x8192, .bf16⟩
  | .hbm, ⟨1, _⟩ => ⟨S1, .f32⟩
  | .hbm, ⟨2, _⟩ => ⟨S1x1024x3, .f32⟩
  | .hbm, ⟨3, _⟩ => ⟨S1x1024x3, .f32⟩
  | .hbm, ⟨4, _⟩ => ⟨S8192, .f32⟩
  | .hbm, ⟨5, _⟩ => ⟨S8192, .f32⟩
  | .hbm, ⟨6, _⟩ => ⟨S1024x3x8192, .f32⟩
  | .hbm, ⟨7, _⟩ => ⟨S_, .f32⟩
  | .hbm, ⟨8, _⟩ => ⟨S1024x3, .f32⟩
  | .hbm, ⟨9, _⟩ => ⟨S_, .f32⟩
  | .hbm, ⟨10, _⟩ => ⟨S1024x3, .f32⟩
  | .hbm, ⟨11, _⟩ => ⟨S1024x3, .f32⟩
  | .hbm, ⟨12, _⟩ => ⟨S1024x3x1, .f32⟩
  | .hbm, ⟨13, _⟩ => ⟨S1024x3x8192, .f32⟩
  | .hbm, ⟨14, _⟩ => ⟨S1024x3x8192, .f32⟩
  | .hbm, ⟨15, _⟩ => ⟨S1024x3x8192, .f32⟩
  | .hbm, ⟨16, _⟩ => ⟨S_, .f32⟩
  | .hbm, ⟨17, _⟩ => ⟨S1024x3, .f32⟩
  | .hbm, ⟨18, _⟩ => ⟨S_, .f32⟩
  | .hbm, ⟨19, _⟩ => ⟨S1024x3, .f32⟩
  | .hbm, ⟨20, _⟩ => ⟨S1024x3, .f32⟩
  | .hbm, ⟨21, _⟩ => ⟨S_, .f32⟩
  | .hbm, ⟨22, _⟩ => ⟨S_, .f32⟩
  | .hbm, ⟨23, _⟩ => ⟨S1024x3, .f32⟩
  | .hbm, ⟨24, _⟩ => ⟨S_, .f32⟩
  | .hbm, ⟨25, _⟩ => ⟨S_, .f32⟩
  | .hbm, ⟨26, _⟩ => ⟨S1024x3, .f32⟩
  | .hbm, ⟨27, _⟩ => ⟨S1024x3, .f32⟩
  | .hbm, ⟨28, _⟩ => ⟨S1024x3, .f32⟩
  | .hbm, ⟨29, _⟩ => ⟨S1024x3, .f32⟩
  | .hbm, ⟨30, _⟩ => ⟨S1024x3, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1024x3, .f32⟩
  | .hbm, ⟨35, _⟩ => ⟨S1024x3, .f32⟩
  | .hbm, ⟨36, _⟩ => ⟨S1024x3, .f32⟩
  | .hbm, ⟨37, _⟩ => ⟨S1024x3, .f32⟩
  | .hbm, ⟨38, _⟩ => ⟨S1024x3, .f32⟩
  | .hbm, ⟨39, _⟩ => ⟨S_, .f32⟩
  | .hbm, ⟨40, _⟩ => ⟨S1024x3, .f32⟩
  | .hbm, ⟨41, _⟩ => ⟨S1024x3, .f32⟩
  | .hbm, ⟨42, _⟩ => ⟨S1024x3, .f32⟩
  | .hbm, ⟨43, _⟩ => ⟨S1024x3x1, .f32⟩
  | .hbm, ⟨44, _⟩ => ⟨S1024x3x8192, .f32⟩
  | .hbm, ⟨45, _⟩ => ⟨S1024x3x8192, .f32⟩
  | .hbm, ⟨46, _⟩ => ⟨S1024x3x1, .f32⟩
  | .hbm, ⟨47, _⟩ => ⟨S1024x3x8192, .f32⟩
  | .hbm, ⟨48, _⟩ => ⟨S1024x3x8192, .f32⟩
  | .hbm, ⟨49, _⟩ => ⟨S1x1x8192, .f32⟩
  | .hbm, ⟨50, _⟩ => ⟨S1024x3x8192, .f32⟩
  | .hbm, ⟨51, _⟩ => ⟨S1024x3x8192, .f32⟩
  | .hbm, ⟨52, _⟩ => ⟨S1x1x8192, .f32⟩
  | .hbm, ⟨53, _⟩ => ⟨S1024x3x8192, .f32⟩
  | .hbm, ⟨54, _⟩ => ⟨S1024x3x8192, .f32⟩
  | .hbm, ⟨55, _⟩ => ⟨S1024x3x64x128, .f32⟩
  | .hbm, ⟨56, _⟩ => ⟨S1024x3x64x128, .f32⟩
  | .hbm, ⟨57, _⟩ => ⟨S_, .f32⟩
  | .hbm, ⟨58, _⟩ => ⟨S1024x3x64, .f32⟩
  | .hbm, ⟨59, _⟩ => ⟨S_, .f32⟩
  | .hbm, ⟨60, _⟩ => ⟨S1024x3x64, .f32⟩
  | .hbm, ⟨61, _⟩ => ⟨S1024x3x64, .f32⟩
  | .hbm, ⟨62, _⟩ => ⟨S1024x3x64, .f32⟩
  | .hbm, ⟨63, _⟩ => ⟨S_, .f32⟩
  | .hbm, ⟨64, _⟩ => ⟨S_, .f32⟩
  | .hbm, ⟨65, _⟩ => ⟨S1024x3x64, .f32⟩
  | .hbm, ⟨66, _⟩ => ⟨S1024x3x64, .f32⟩
  | .hbm, ⟨67, _⟩ => ⟨S1024x3x64, .f32⟩
  | .hbm, ⟨68, _⟩ => ⟨S_, .f32⟩
  | .hbm, ⟨69, _⟩ => ⟨S1024x3x64, .f32⟩
  | .hbm, ⟨70, _⟩ => ⟨S1024x3x64, .f32⟩
  | .hbm, ⟨71, _⟩ => ⟨S_, .f32⟩
  | .hbm, ⟨72, _⟩ => ⟨S1024x3x64, .f32⟩
  | .hbm, ⟨73, _⟩ => ⟨S1024x3x64, .i1⟩
  | .hbm, ⟨74, _⟩ => ⟨S_, .f32⟩
  | .hbm, ⟨75, _⟩ => ⟨S1024x3x64, .f32⟩
  | .hbm, ⟨76, _⟩ => ⟨S1024x3x64, .f32⟩
  | .hbm, ⟨77, _⟩ => ⟨S_, .f32⟩
  | .hbm, ⟨78, _⟩ => ⟨S1024x3x64, .f32⟩
  | .hbm, ⟨79, _⟩ => ⟨S1024x3x64, .f32⟩
  | .hbm, ⟨80, _⟩ => ⟨S1024x3x64, .f32⟩
  | .hbm, ⟨81, _⟩ => ⟨S1024x3x64, .f32⟩
  | .hbm, ⟨82, _⟩ => ⟨S1024x3x64x1, .f32⟩
  | .hbm, ⟨83, _⟩ => ⟨S1024x3x64x128, .f32⟩
  | .hbm, ⟨84, _⟩ => ⟨S1024x3x64x128, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S1024x3x64x128, .f32⟩
  | .hbm, ⟨89, _⟩ => ⟨S1024x3x64x128, .f32⟩
  | .hbm, ⟨90, _⟩ => ⟨S_, .f32⟩
  | .hbm, ⟨91, _⟩ => ⟨S1024x3x64x128, .f32⟩
  | .hbm, ⟨92, _⟩ => ⟨S1024x3x64x128, .f32⟩
  | .hbm, ⟨93, _⟩ => ⟨S1024x3x8192, .f32⟩
  | .hbm, ⟨94, _⟩ => ⟨S1024x3x8192, .fp8e4m3⟩
  | .local _ .vmem, ⟨0, _⟩ => ⟨S1024x3x8192, .f32⟩
  | .local _ .vmem, ⟨1, _⟩ => ⟨S1024x3x8192, .fp8e4m3⟩
  | _, _ => ⟨S1024x3x8192, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_cst_14 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1024x3x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x3x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Tile.lean ====
module

public import proofs.«01_k».proof.Proof.Gen.KernelIdeal.Frame
public import Idealize.ShloMosaic.Lib.Pointwise

/-!
What one grid point of the layernorm kernel computes, stated once for a row group `r` (32 rows) and a column
chunk `c` (256 columns) as functions of the blocks the point reads, in the order of the kernel's own operations.
-/

@[expose] public section

set_option maxRecDepth 16384

noncomputable section

namespace Cert.Proof.Ker
open Cert.KernelIdeal Cert.KernelIdeal.Gen
open Idealize.ShloMosaic Idealize.ShloMosaic.TcCoe

variable {F : FTy → Type} [FloatOps F]

/-! ## The rectangles -/

/-- Row group `r`, column chunk `c` of the activation block. -/
abbrev rx (r : Fin 4) (c : Fin 32) : Rect S128x8192 :=
  Rect.unit (s := S128x8192) ![32 * r.val, 256 * c.val] S32x256.size (by
    intro i; have hr := r.2; have hc := c.2
    match i with
    | ⟨0, _⟩ => change 32 * r.val + 32 ≤ 128; omega
    | ⟨1, _⟩ => change 256 * c.val + 256 ≤ 8192; omega)

/-- Column chunk `c` of a parameter row. -/
abbrev rg (c : Fin 32) : Rect S1x8192 :=
  Rect.unit (s := S1x8192) ![0, 256 * c.val] S1x256.size (by
    intro i; have hc := c.2
    match i with
    | ⟨0, _⟩ => change 0 + 1 ≤ 1; omega
    | ⟨1, _⟩ => change 256 * c.val + 256 ≤ 8192; omega)

/-- Row group `r`, column `j` of the scratch of block maxima. -/
abbrev rs (r : Fin 4) (j : Fin 64) : Rect S128x128 :=
  Rect.unit (s := S128x128) ![32 * r.val, j.val] S32x1.size (by
    intro i; have hr := r.2; have hj := j.2
    match i with
    | ⟨0, _⟩ => change 32 * r.val + 32 ≤ 128; omega
    | ⟨1, _⟩ => change j.val + 1 ≤ 128; omega)

/-! ## The scalars and the columns of the peer's statistics -/

/-- The peer's count as the body reads it. -/
def cntOf (p : Vec F S1 .f32) : F .f32 :=
  View.ld p (Rect.unit (s := S1) ![0] S1.size inb_S1_S1_0)
    (Shape.Idx.first (s := (Rect.unit (s := S1) ![0] S1.size inb_S1_S1_0).shape) (by decide))

/-- The merged count. -/
def nS (n0 : F .f32) : F .f32 := Scalar.addf n0 (Scalar.ofBits .f32 0x46000000#32)

/-- The weight of the local mean. -/
def wB (n0 : F .f32) : F .f32 := Scalar.divf (Scalar.ofBits .f32 0x46000000#32) (nS n0)

/-- The weight of the squared mean difference. -/
def wAB (n0 : F .f32) : F .f32 := Scalar.divf (Scalar.mulf n0 (Scalar.ofBits .f32 0x46000000#32)) (nS n0)

/-- The whole of a block of 128 lanes. -/
abbrev rp : Rect S1x1x128 := Rect.unit (s := S1x1x128) ![0, 0, 0] S1x1x128.size inb_S1x1x128_S1x1x128_0_0_0

/-- A block of 128 lanes turned into a column of 128 rows. -/
def colT (p : Vec F S1x1x128 .f32) : FVec F S128x1 .f32 :=
  extractStridedSlice S128x1 ![0, 0]
    (transpose S128x8 [1, 0]
      (broadcastTo S8x128
        (shapeCast S1x128 (shapeCast S1x128 (View.ld p rp : Vec F S1x1x128 .f32) shapeCasts_S1x1x128_S1x128) shapeCasts_S1x128_S1x128)
        broadcasts_S1x128_S8x128) transposes_S8x128_p1_0_S128x8) slices_S128x8_o0_0_S128x1

/-- A column's 32 rows of a row group lie in its 128. -/
theorem slices_row (r : Fin 4) : S128x1.Slices ![32 * r.val, 0] S32x1 := by
  match r with
  | ⟨0, _⟩ => exact slices_S128x1_o0_0_S32x1
  | ⟨1, _⟩ => exact slices_S128x1_o32_0_S32x1
  | ⟨2, _⟩ => exact slices_S128x1_o64_0_S32x1
  | ⟨3, _⟩ => exact slices_S128x1_o96_0_S32x1

/-- The row group's 32 rows of a column. -/
def rowT (p : Vec F S1x1x128 .f32) (r : Fin 4) : FVec F S32x1 .f32 :=
  extractStridedSlice S32x1 ![32 * r.val, 0] (colT p) (slices_row r)

/-! ## The local statistics -/

/-- The left 128 columns of a chunk. -/
def loH (v : FVec F S32x256 .f32) : FVec F S32x128 .f32 := extractStridedSlice S32x128 ![0, 0] v slices_S32x256_o0_0_S32x128
/-- The right 128 columns of a chunk. -/
def hiH (v : FVec F S32x256 .f32) : FVec F S32x128 .f32 := extractStridedSlice S32x128 ![0, 128] v slices_S32x256_o0_128_S32x128

/-- A chunk of activations at full width. -/
def xT (x : Vec F S128x8192 .bf16) (r : Fin 4) (c : Fin 32) : FVec F S32x256 .f32 :=
  extf .f32 (shapeCast S32x256 (View.ld x (rx r c) : Vec F S32x256 .bf16) shapeCasts_S32x256_S32x256) bitsLt_bf16_f32

/-- The lane sums of `g` over the first `n` chunks. -/
def lanes (g : Fin 32 → FVec F S32x256 .f32) : (n : ℕ) → n ≤ 32 → FVec F S32x128 .f32
  | 0, _ => broadcast S32x128 (Scalar.ofBits .f32 0x00000000#32)
  | n + 1, h => addf (addf (lanes g n (Nat.le_of_succ_le h)) (loH (g ⟨n, h⟩))) (hiH (g ⟨n, h⟩))

/-- The row sums of `g` over all chunks. -/
def rowSum (g : Fin 32 → FVec F S32x256 .f32) : FVec F S32x1 .f32 :=
  shapeCast S32x1 (multiReduction .add [1] S32 (lanes g 32 (Nat.le_refl 32)) 0x00000000#32 reduces_S32x128_S32 (.inl rfl) rfl) shapeCasts_S32_S32x1

/-- A column spread over a chunk's columns. -/
def spread (v : FVec F S32x1 .f32) : FVec F S32x256 .f32 := broadcastTo S32x256 v broadcasts_S32x1_S32x256

/-- The local mean of each row. -/
def mLoc (x : Vec F S128x8192 .bf16) (r : Fin 4) : FVec F S32x1 .f32 :=
  divf (rowSum (xT x r)) (broadcast S32x1 (Scalar.ofBits .f32 0x46000000#32))

/-- The squared deviations of a chunk. -/
def sqT (x : Vec F S128x8192 .bf16) (r : Fin 4) (c : Fin 32) : FVec F S32x256 .f32 :=
  mulf (subf (xT x r c) (spread (mLoc x r))) (subf (xT x r c) (spread (mLoc x r)))

/-- The local sum of squared deviations of each row. -/
def m2Loc (x : Vec F S128x8192 .bf16) (r : Fin 4) : FVec F S32x1 .f32 := rowSum (sqT x r)

/-! ## The merged statistics -/

/-- The local mean less the peer's. -/
def deltaT (x : Vec F S128x8192 .bf16) (pm : Vec F S1x1x128 .f32) (r : Fin 4) : FVec F S32x1 .f32 :=
  subf (mLoc x r) (rowT pm r)

/-- The merged mean. -/
def meanT (n0 : F .f32) (x : Vec F S128x8192 .bf16) (pm : Vec F S1x1x128 .f32) (r : Fin 4) : FVec F S32x1 .f32 :=
  addf (rowT pm r) (mulf (deltaT x pm r) (broadcast S32x1 (wB n0)))

/-- The merged sum of squared deviations. -/
def m2T (n0 : F .f32) (x : Vec F S128x8192 .bf16) (pm pm2 : Vec F S1x1x128 .f32) (r : Fin 4) : FVec F S32x1 .f32 :=
  addf (addf (rowT pm2 r) (m2Loc x r)) (mulf (mulf (deltaT x pm r) (deltaT x pm r)) (broadcast S32x1 (wAB n0)))

/-- The reciprocal standard deviation. -/
def rstdT (n0 : F .f32) (x : Vec F S128x8192 .bf16) (pm pm2 : Vec F S1x1x128 .f32) (r : Fin 4) : FVec F S32x1 .f32 :=
  rsqrt (addf (divf (m2T n0 x pm pm2 r) (broadcast S32x1 (nS n0))) (broadcast S32x1 (Scalar.ofBits .f32 0x3727C5AC#32)))

/-! ## The normalised chunk and its block maxima -/

/-- A parameter row's chunk spread over the chunk's rows. -/
def parT (g : Vec F S1x8192 .f32) (c : Fin 32) : FVec F S32x256 .f32 :=
  broadcastTo S32x256 (shapeCast S1x256 (View.ld g (rg c) : Vec F S1x256 .f32) shapeCasts_S1x256_S1x256) broadcasts_S1x256_S32x256

/-- The normalised chunk. -/
def yT (n0 : F .f32) (x : Vec F S128x8192 .bf16) (pm pm2 : Vec F S1x1x128 .f32) (g b : Vec F S1x8192 .f32) (r : Fin 4) (c : Fin 32) :
    FVec F S32x256 .f32 :=
  addf (mulf (mulf (subf (xT x r c) (spread (meanT n0 x pm r))) (spread (rstdT n0 x pm pm2 r))) (parT g c)) (parT b c)

/-- The largest absolute value of each row of a block of 128 columns. -/
def amaxH (v : FVec F S32x128 .f32) : FVec F S32x1 .f32 :=
  shapeCast S32x1 (multiReduction .maximumf [1] S32 (absf v) 0xFF800000#32 reduces_S32x128_S32 (.inl rfl) rfl) shapeCasts_S32_S32x1

/-- What is compared in the search: the block maximum over 448. -/
def overQ {s : Shape} (a : FVec F s .f32) : FVec F s .f32 := mulf a (broadcast s (Scalar.ofBits .f32 0x3B124925#32))

/-! ## The exponent search -/

/-- One step of the search: `bit` is kept when the value is not below the candidate. -/
def stepB {s : Shape} (v : FVec F s .f32) (t : IVec s 32) (bit : BitVec 32) : IVec s 32 :=
  select (cmpf .olt v (bitcastToFloat .f32 (ori t (broadcast s bit)))) t (ori t (broadcast s bit))

/-- The exponent bits of `v`, found from the top bit down. -/
def expB {s : Shape} (v : FVec F s .f32) : IVec s 32 :=
  stepB v (stepB v (stepB v (stepB v (stepB v (stepB v (stepB v (stepB v (broadcast s 0#32)
    1073741824#32) 536870912#32) 268435456#32) 134217728#32) 67108864#32) 33554432#32) 16777216#32) 8388608#32

/-- The power of two above `v`. -/
def scaleB {s : Shape} (v : FVec F s .f32) : FVec F s .f32 :=
  bitcastToFloat .f32 (select (cmpi .eq (expB v) (broadcast s 0#32)) (broadcast s 1065353216#32) (addi (expB v) (broadcast s 8388608#32)))

/-- The inverse of the power of two above `v`. -/
def invB {s : Shape} (v : FVec F s .f32) : FVec F s .f32 :=
  bitcastToFloat .f32 (select (cmpi .eq (expB v) (broadcast s 0#32)) (broadcast s 1065353216#32) (subi (broadcast s 2122317824#32) (expB v)))

/-! ## The codes -/

/-- A block of 128 columns over its scale, held to the code range. -/
def qH (v : FVec F S32x128 .f32) : FVec F S32x128 .f32 :=
  minimumf (broadcast S32x128 (Scalar.ofBits .f32 0x43E00000#32))
    (maximumf (broadcast S32x128 (Scalar.ofBits .f32 0xC3E00000#32))
      (mulf v (broadcastTo S32x128 (invB (overQ (amaxH v))) broadcasts_S32x1_S32x128)))

/-- The codes of a chunk. -/
def codeT (v : FVec F S32x256 .f32) : FVec F S32x256 .fp8e4m3 :=
  truncf .fp8e4m3 (concatenate S32x256 1 [⟨S32x128, qH (loH v)⟩, ⟨S32x128, qH (hiH v)⟩] concatenates_S32x128_S32x128_S32x256_d1) bitsLt_fp8e4m3_f32

/-! ## The stores, last first -/

/-- The row group and the chunk of store `n` of the codes. -/
abbrev gOf (n : ℕ) : Fin 4 := ⟨n / 32 % 4, Nat.mod_lt _ (by decide)⟩
/-- The chunk of store `n` of the codes. -/
abbrev cOf (n : ℕ) : Fin 32 := ⟨n % 32, Nat.mod_lt _ (by decide)⟩

/-- The first `n` stores of the codes, last first, for the normalised chunks `y`. -/
def codePieces (y : Fin 4 → Fin 32 → FVec F S32x256 .f32) : ℕ → List (View.Piece (Elt F) S128x8192 .fp8e4m3)
  | 0 => []
  | n + 1 => ⟨rx (gOf n) (cOf n), (codeT (y (gOf n) (cOf n)) : Vec F S32x256 .fp8e4m3)⟩ :: codePieces y n

/-- A block maximum as it is stored. -/
def amaxS (v : FVec F S32x128 .f32) : FVec F S32x1 .f32 := shapeCast S32x1 (amaxH v) shapeCasts_S32x1_S32x1

/-- The first `2 n` stores of the block maxima, last first. -/
def amaxPieces (y : Fin 4 → Fin 32 → FVec F S32x256 .f32) : ℕ → List (View.Piece (Elt F) S128x128 .f32)
  | 0 => []
  | n + 1 =>
    ⟨rs (gOf n) ⟨2 * (n % 32) + 1, by have := Nat.mod_lt n (show 32 > 0 by decide); omega⟩, (amaxS (hiH (y (gOf n) (cOf n))) : Vec F S32x1 .f32)⟩ ::
    ⟨rs (gOf n) ⟨2 * (n % 32), by have := Nat.mod_lt n (show 32 > 0 by decide); omega⟩, (amaxS (loH (y (gOf n) (cOf n))) : Vec F S32x1 .f32)⟩ ::
    amaxPieces y n

/-! ## The scales, the means and the reciprocal deviations -/

/-- The scales' block from the block maxima. -/
def scalesOf (a : Vec F S128x128 .f32) : FVec F S1x64x128 .f32 :=
  shapeCast S1x64x128 (extractStridedSlice S64x128 ![0, 0] (transpose S128x128 [1, 0] (scaleB (overQ a)) transposes_S128x128_p1_0_S128x128)
    slices_S128x128_o0_0_S64x128) shapeCasts_S64x128_S1x64x128

/-- Four row groups' columns one after the other. -/
def stack (v : Fin 4 → FVec F S32x1 .f32) : FVec F S128x1 .f32 :=
  concatenate S128x1 0 [⟨S32x1, v 0⟩, ⟨S32x1, v 1⟩, ⟨S32x1, v 2⟩, ⟨S32x1, v 3⟩] concatenates_S32x1_S32x1_S32x1_S32x1_S128x1_d0

/-- The two statistics as rows. -/
def statsT (a b : Fin 4 → FVec F S32x1 .f32) : FVec F S128x128 .f32 :=
  transpose S128x128 [1, 0]
    (concatenate S128x128 1
      [⟨S128x2, concatenate S128x2 1 [⟨S128x1, stack a⟩, ⟨S128x1, stack b⟩] concatenates_S128x1_S128x1_S128x2_d1⟩,
       ⟨S128x126, broadcast S128x126 (Scalar.ofBits .f32 0x00000000#32)⟩] concatenates_S128x2_S128x126_S128x128_d1)
    transposes_S128x128_p1_0_S128x128

/-- The means' block. -/
def meanOf (a b : Fin 4 → FVec F S32x1 .f32) : FVec F S1x1x128 .f32 :=
  shapeCast S1x1x128 (extractStridedSlice S1x128 ![0, 0] (statsT a b) slices_S128x128_o0_0_S1x128) shapeCasts_S1x128_S1x1x128

/-- The reciprocal deviations' block. -/
def rstdOf (a b : Fin 4 → FVec F S32x1 .f32) : FVec F S1x1x128 .f32 :=
  shapeCast S1x1x128 (extractStridedSlice S1x128 ![1, 0] (statsT a b) slices_S128x128_o1_0_S1x128) shapeCasts_S1x128_S1x1x128

/-! ## The stores cover what they must -/

/-- Store `k` is among the first `n` when `k < n`. -/
theorem mem_codePieces (y : Fin 4 → Fin 32 → FVec F S32x256 .f32) (k : ℕ) : ∀ n, k < n →
    (⟨rx (gOf k) (cOf k), (codeT (y (gOf k) (cOf k)) : Vec F S32x256 .fp8e4m3)⟩ : View.Piece (Elt F) S128x8192 .fp8e4m3) ∈ codePieces y n
  | 0, h => absurd h (Nat.not_lt_zero _)
  | n + 1, h => by
    rcases Nat.lt_succ_iff_lt_or_eq.mp h with h | rfl
    · exact List.mem_cons_of_mem _ (mem_codePieces y k n h)
    · exact List.mem_cons_self

/-- The stores of the codes cover the block. -/
theorem cover_codes (y : Fin 4 → Fin 32 → FVec F S32x256 .f32) (i : S128x8192.Idx) : ∃ p ∈ codePieces y 128, i ∈ p.1.set := by
  have h0 : (i 0).val < 128 := (i 0).2
  have h1 : (i 1).val < 8192 := (i 1).2
  refine ⟨_, mem_codePieces y (32 * ((i 0).val / 32) + (i 1).val / 256) 128 (by omega), ?_⟩
  rw [Rect.mem_set_unit]
  intro a
  match a with
  | ⟨0, _⟩ =>
    change 32 * ((32 * ((i 0).val / 32) + (i 1).val / 256) / 32 % 4) ≤ (i 0).val ∧ (i 0).val < 32 * ((32 * ((i 0).val / 32) + (i 1).val / 256) / 32 % 4) + 32
    omega
  | ⟨1, _⟩ =>
    change 256 * ((32 * ((i 0).val / 32) + (i 1).val / 256) % 32) ≤ (i 1).val ∧ (i 1).val < 256 * ((32 * ((i 0).val / 32) + (i 1).val / 256) % 32) + 256
    omega

/-- The two stores of block maxima of chunk `k` are among those of the first `n` chunks when `k < n`. -/
theorem mem_amaxPieces (y : Fin 4 → Fin 32 → FVec F S32x256 .f32) (k : ℕ) : ∀ n, k < n →
    (⟨rs (gOf k) ⟨2 * (k % 32) + 1, by have := Nat.mod_lt k (show 32 > 0 by decide); omega⟩, (amaxS (hiH (y (gOf k) (cOf k))) : Vec F S32x1 .f32)⟩ : View.Piece (Elt F) S128x128 .f32) ∈ amaxPieces y n
    ∧ (⟨rs (gOf k) ⟨2 * (k % 32), by have := Nat.mod_lt k (show 32 > 0 by decide); omega⟩, (amaxS (loH (y (gOf k) (cOf k))) : Vec F S32x1 .f32)⟩ : View.Piece (Elt F) S128x128 .f32) ∈ amaxPieces y n
  | 0, h => absurd h (Nat.not_lt_zero _)
  | n + 1, h => by
    rcases Nat.lt_succ_iff_lt_or_eq.mp h with h | rfl
    · exact ⟨List.mem_cons_of_mem _ (List.mem_cons_of_mem _ (mem_amaxPieces y k n h).1), List.mem_cons_of_mem _ (List.mem_cons_of_mem _ (mem_amaxPieces y k n h).2)⟩
    · exact ⟨List.mem_cons_self, List.mem_cons_of_mem _ List.mem_cons_self⟩

/-- The stores of the block maxima cover the first 64 columns. -/
theorem cover_amax (y : Fin 4 → Fin 32 → FVec F S32x256 .f32) (i : S128x128.Idx) (hi : (i 1).val < 64) : ∃ p ∈ amaxPieces y 128, i ∈ p.1.set := by
  have h0 : (i 0).val < 128 := (i 0).2
  have hm := mem_amaxPieces y (32 * ((i 0).val / 32) + (i 1).val / 2) 128 (by omega)
  rcases Nat.mod_two_eq_zero_or_one (i 1).val with h | h
  · refine ⟨_, hm.2, ?_⟩
    rw [Rect.mem_set_unit]
    intro a
    match a with
    | ⟨0, _⟩ =>
      change 32 * ((32 * ((i 0).val / 32) + (i 1).val / 2) / 32 % 4) ≤ (i 0).val ∧ (i 0).val < 32 * ((32 * ((i 0).val / 32) + (i 1).val / 2) / 32 % 4) + 32
      omega
    | ⟨1, _⟩ =>
      change 2 * ((32 * ((i 0).val / 32) + (i 1).val / 2) % 32) ≤ (i 1).val ∧ (i 1).val < 2 * ((32 * ((i 0).val / 32) + (i 1).val / 2) % 32) + 1
      omega
  · refine ⟨_, hm.1, ?_⟩
    rw [Rect.mem_set_unit]
    intro a
    match a with
    | ⟨0, _⟩ =>
      change 32 * ((32 * ((i 0).val / 32) + (i 1).val / 2) / 32 % 4) ≤ (i 0).val ∧ (i 0).val < 32 * ((32 * ((i 0).val / 32) + (i 1).val / 2) / 32 % 4) + 32
      omega
    | ⟨1, _⟩ =>
      change 2 * ((32 * ((i 0).val / 32) + (i 1).val / 2) % 32) + 1 ≤ (i 1).val ∧ (i 1).val < 2 * ((32 * ((i 0).val / 32) + (i 1).val / 2) % 32) + 1 + 1
      omega

/-! ## The search at one value -/

/-- One step of the search at one value. -/
def stepS (v : F .f32) (t bit : BitVec 32) : BitVec 32 :=
  if FloatOps.cmpf .olt v (FloatOps.ofBits .f32 (t ||| bit)) = 1 then t else t ||| bit

/-- The exponent bits of one value. -/
def expS (v : F .f32) : BitVec 32 :=
  stepS v (stepS v (stepS v (stepS v (stepS v (stepS v (stepS v (stepS v 0#32
    1073741824#32) 536870912#32) 268435456#32) 134217728#32) 67108864#32) 33554432#32) 16777216#32) 8388608#32

/-- The power of two above one value. -/
def scaleS (v : F .f32) : F .f32 := FloatOps.ofBits .f32 (if expS v = 0#32 then 1065353216#32 else expS v + 8388608#32)

/-- The inverse of the power of two above one value. -/
def invS (v : F .f32) : F .f32 := FloatOps.ofBits .f32 (if expS v = 0#32 then 1065353216#32 else 2122317824#32 - expS v)

/-- The search reads each index by itself. -/
theorem expB_apply {s : Shape} (v : FVec F s .f32) (i : s.Idx) : expB v i = expS (v i) := rfl

/-- A choice on the comparison of two words is a choice on their equality. -/
theorem ite_ofBool {α : Type} (x y : BitVec 32) (a b : α) : (if BitVec.ofBool (x == y) = 1 then a else b) = if x = y then a else b := by
  by_cases h : x = y
  · simp [h]
  · have hb : (x == y) = false := by simpa using h
    rw [hb, if_neg h]; rfl

/-- The scale reads each index by itself. -/
theorem scaleB_apply {s : Shape} (v : FVec F s .f32) (i : s.Idx) : scaleB v i = scaleS (v i) :=
  congrArg (FloatOps.ofBits .f32) (ite_ofBool (expS (v i)) 0#32 1065353216#32 (expS (v i) + 8388608#32))

/-- The inverse scale reads each index by itself. -/
theorem invB_apply {s : Shape} (v : FVec F s .f32) (i : s.Idx) : invB v i = invS (v i) :=
  congrArg (FloatOps.ofBits .f32) (ite_ofBool (expS (v i)) 0#32 1065353216#32 (2122317824#32 - expS (v i)))

/-! ## The outputs -/

/-- The scale of one block maximum. -/
def scaleM (a : F .f32) : F .f32 := scaleS (FloatOps.mulf a (FloatOps.ofBits .f32 0x3B124925#32))

/-- The scales' block at row `j`, lane `l` reads the block maximum at row `l`, column `j`. -/
theorem scalesOf_apply (a : Vec F S128x128 .f32) (z : Fin 1) (j : Fin 64) (l : Fin 128) :
    scalesOf a (ix3 z j l : S1x64x128.Idx) = scaleM (a (ix2 l ⟨j.val, by omega⟩ : S128x128.Idx)) := by
  pointwise [scalesOf, scaleB_apply]
  rfl

/-- The normalised chunks of a block, from the blocks the point reads. -/
def yOf (x0 : Vec F S1 .f32) (x1 : Vec F S128x8192 .bf16) (x2 x3 : Vec F S1x1x128 .f32) (x4 x5 : Vec F S1x8192 .f32) :
    Fin 4 → Fin 32 → FVec F S32x256 .f32 := yT (cntOf x0) x1 x2 x3 x4 x5

/-- The block maxima of a block. -/
def amaxOf (x0 : Vec F S1 .f32) (x1 : Vec F S128x8192 .bf16) (x2 x3 : Vec F S1x1x128 .f32) (x4 x5 : Vec F S1x8192 .f32) : Vec F S128x128 .f32 :=
  View.canon (amaxPieces (yOf x0 x1 x2 x3 x4 x5) 128)

/-- The whole of the scales' block. -/
abbrev rsc : Rect S1x64x128 := Rect.unit (s := S1x64x128) ![0, 0, 0] S1x64x128.size inb_S1x64x128_S1x64x128_0_0_0

/-- What a point leaves of the codes. -/
def out6 (x0 : Vec F S1 .f32) (x1 : Vec F S128x8192 .bf16) (x2 x3 : Vec F S1x1x128 .f32) (x4 x5 : Vec F S1x8192 .f32) : Vec F S128x8192 .fp8e4m3 :=
  View.canon (codePieces (yOf x0 x1 x2 x3 x4 x5) 128)

/-- What a point leaves of the scales. -/
def out7 (x0 : Vec F S1 .f32) (x1 : Vec F S128x8192 .bf16) (x2 x3 : Vec F S1x1x128 .f32) (x4 x5 : Vec F S1x8192 .f32) : Vec F S1x64x128 .f32 :=
  View.canon [⟨rsc, scalesOf (amaxOf x0 x1 x2 x3 x4 x5)⟩]

/-- What a point leaves of the means. -/
def out8 (x0 : Vec F S1 .f32) (x1 : Vec F S128x8192 .bf16) (x2 x3 : Vec F S1x1x128 .f32) : Vec F S1x1x128 .f32 :=
  View.canon [⟨rp, meanOf (meanT (cntOf x0) x1 x2) (rstdT (cntOf x0) x1 x2 x3)⟩]

/-- What a point leaves of the reciprocal deviations. -/
def out9 (x0 : Vec F S1 .f32) (x1 : Vec F S128x8192 .bf16) (x2 x3 : Vec F S1x1x128 .f32) : Vec F S1x1x128 .f32 :=
  View.canon [⟨rp, rstdOf (meanT (cntOf x0) x1 x2) (rstdT (cntOf x0) x1 x2 x3)⟩]

/-- One store of the whole scales' block covers it. -/
theorem cover_sc (p : Vec F S1x64x128 .f32) (y : S1x64x128.Idx) :
    ∃ pc ∈ ([⟨rsc, p⟩] : List (View.Piece (Elt F) S1x64x128 .f32)), y ∈ pc.1.set :=
  View.cover_of_tiled [⟨rsc, p⟩] S1x64x128.size (by rfl) y

/-- One store of a whole block of lanes covers it. -/
theorem cover_p (p : Vec F S1x1x128 .f32) (y : S1x1x128.Idx) :
    ∃ pc ∈ ([⟨rp, p⟩] : List (View.Piece (Elt F) S1x1x128 .f32)), y ∈ pc.1.set :=
  View.cover_of_tiled [⟨rp, p⟩] S1x1x128.size (by rfl) y

/-- The whole of the scratch. -/
abbrev rw0 : Rect S128x128 := Rect.unit (s := S128x128) ![0, 0] S128x128.size inb_S128x128_S128x128_0_0

/-- The scales read the first 64 columns of the block maxima only, whatever lay in the scratch before. -/
theorem scalesOf_scratch {κ : Kind} {sp : Space} (v : View sig κ sp S128x128 .f32) (f : v.ty.Contents (Elt F))
    (y : Fin 4 → Fin 32 → FVec F S32x256 .f32) :
    scalesOf (View.ld (v.read (Elt F) (v.writes (Elt F) f (amaxPieces y 128))) rw0 : Vec F S128x128 .f32)
      = scalesOf (View.canon (amaxPieces y 128)) := by
  funext j
  idx_vars j
  rw [scalesOf_apply, scalesOf_apply]
  refine congrArg scaleM ?_
  rw [← View.read_writes_apply_eq_canon v f _ _ (cover_amax y _ (by first | exact j1.2 | exact j0.2))]
  refine congrArg (v.read (Elt F) (v.writes (Elt F) f (amaxPieces y 128))) (funext fun d => ?_)
  match d with
  | ⟨0, _⟩ => exact Fin.ext (by simp [LoadRect.idx, Rect.unit])
  | ⟨1, _⟩ => exact Fin.ext (by simp [LoadRect.idx, Rect.unit])

end Cert.Proof.Ker
end
-- ==== Proof.Run.lean ====
module

public import proofs.«01_k».proof.Proof.Tile
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Tactic

/-! The kernel's body run once: what it leaves in its four output blocks is what Tile.lean states. -/

@[expose] public section

set_option maxRecDepth 16384

noncomputable section

namespace Cert.Proof.Ker
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 9972000 in
/-- The body at any point, on whole staging memrefs holding the input blocks, leaves each output block at the stated
    function of them and the scratch at some contents. -/
theorem sound_kernel (c : Dev nD) (i : grid0.Coords) (arg1 : Memref sig .tc .smem S1 .f32) (harg1 : arg1.IsWhole) (arg2 : Memref sig .tc .vmem S128x8192 .bf16) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S128x8192 .fp8e4m3) (harg7 : arg7.IsWhole) (arg8 : Memref sig .tc .vmem S1x64x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S128x128 .f32) (harg11 : arg11.IsWhole)
    (x0 : Vec F S1 .f32) (x1 : Vec F S128x8192 .bf16) (x2 : Vec F S1x1x128 .f32) (x3 : Vec F S1x1x128 .f32) (x4 : Vec F S1x8192 .f32) (x5 : Vec F S1x8192 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6 x0 x1 x2 x3 x4 x5) ∗ owns (c : Thread nD τ) arg8 fullShare (out7 x0 x1 x2 x3 x4 x5) ∗ owns (c : Thread nD τ) arg9 fullShare (out8 x0 x1 x2 x3) ∗ owns (c : Thread nD τ) arg10 fullShare (out9 x0 x1 x2 x3) ∗ (∃ d, owns (c : Thread nD τ) arg11 fullShare d)) -∗ K ⟨⟩))
          ⊢ wp frame (wpE (defs₀ (F := F)) Variants.none c none) E (cc0_tp_layernorm_fp8 i arg1 harg1 arg2 harg2 arg3 harg3 arg4 harg4 arg5 harg5 arg6 harg6 arg7 harg7 arg8 harg8 arg9 harg9 arg10 harg10 arg11 harg11) K := by
    intro E K
    simp only [cc0_tp_layernorm_fp8_eq_skeleton]; unfold cc0_tp_layernorm_fp8_skel
    simp only [k0_part464_eq_skeleton, k0_part457_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part458_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part459_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part460_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part461_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part462_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part463_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    subst hf0 hf1 hf2 hf3 hf4 hf5
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro
      exact View.read_writes_eq_canon arg7.view f6 (codePieces (yOf (arg1.view.read (Elt F) f0) (arg2.view.read (Elt F) f1) (arg3.view.read (Elt F) f2) (arg4.view.read (Elt F) f3) (arg5.view.read (Elt F) f4) (arg6.view.read (Elt F) f5)) 128) (cover_codes _)
    isplitl [H7]
    · iexists _; isplitr
      swap; · iexact H7
      ipureintro
      refine Eq.trans ?_ ((View.read_writes_eq_canon arg8.view f7 _ (cover_sc _)).trans (congrArg (fun p => View.canon [⟨rsc, p⟩]) (scalesOf_scratch arg11.view fs0 (yOf (arg1.view.read (Elt F) f0) (arg2.view.read (Elt F) f1) (arg3.view.read (Elt F) f2) (arg4.view.read (Elt F) f3) (arg5.view.read (Elt F) f4) (arg6.view.read (Elt F) f5)))))
      rfl
    isplitl [H8]
    · iexists _; isplitr
      swap; · iexact H8
      ipureintro
      refine Eq.trans ?_ (View.read_writes_eq_canon arg9.view f8 _ (cover_p (meanOf (meanT (cntOf (arg1.view.read (Elt F) f0)) (arg2.view.read (Elt F) f1) (arg3.view.read (Elt F) f2)) (rstdT (cntOf (arg1.view.read (Elt F) f0)) (arg2.view.read (Elt F) f1) (arg3.view.read (Elt F) f2) (arg4.view.read (Elt F) f3)))))
      rfl
    isplitl [H9]
    · iexists _; isplitr
      swap; · iexact H9
      ipureintro
      refine Eq.trans ?_ (View.read_writes_eq_canon arg10.view f9 _ (cover_p (rstdOf (meanT (cntOf (arg1.view.read (Elt F) f0)) (arg2.view.read (Elt F) f1) (arg3.view.read (Elt F) f2)) (rstdT (cntOf (arg1.view.read (Elt F) f0)) (arg2.view.read (Elt F) f1) (arg3.view.read (Elt F) f2) (arg4.view.read (Elt F) f3)))))
      rfl
    iexists _; iexists _; isplitr
    swap; · iexact HS0
    ipureintro; rfl

end Cert.Proof.Ker
end
-- ==== Proof.Data.lean ====
module

public import proofs.«01_k».proof.Proof.Run
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Tactic
public import Idealize.ShloMosaic.Lib.Claim

/-! The pipeline's proof data, its run, and the frame claim of the idealised kernel. -/

@[expose] public section

set_option maxRecDepth 16384

noncomputable section

namespace Cert.Proof.Ker
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's current staging memref at a point. -/

abbrev ms0_0 (t : Fin cfg0.N) : Memref sig .tc .smem S1 .f32 := win0_0.stage (cfg0.slots t 0)
abbrev ms0_1 (t : Fin cfg0.N) : Memref sig .tc .vmem S128x8192 .bf16 := win0_1.stage (cfg0.slots t 1)
abbrev ms0_2 (t : Fin cfg0.N) : Memref sig .tc .vmem S1x1x128 .f32 := win0_2.stage (cfg0.slots t 2)
abbrev ms0_3 (t : Fin cfg0.N) : Memref sig .tc .vmem S1x1x128 .f32 := win0_3.stage (cfg0.slots t 3)
abbrev ms0_4 (t : Fin cfg0.N) : Memref sig .tc .vmem S1x8192 .f32 := win0_4.stage (cfg0.slots t 4)
abbrev ms0_5 (t : Fin cfg0.N) : Memref sig .tc .vmem S1x8192 .f32 := win0_5.stage (cfg0.slots t 5)
abbrev ms0_6 (t : Fin cfg0.N) : Memref sig .tc .vmem S128x8192 .fp8e4m3 := win0_6.stage (cfg0.slots t 6)
abbrev ms0_7 (t : Fin cfg0.N) : Memref sig .tc .vmem S1x64x128 .f32 := win0_7.stage (cfg0.slots t 7)
abbrev ms0_8 (t : Fin cfg0.N) : Memref sig .tc .vmem S1x1x128 .f32 := win0_8.stage (cfg0.slots t 8)
abbrev ms0_9 (t : Fin cfg0.N) : Memref sig .tc .vmem S1x1x128 .f32 := win0_9.stage (cfg0.slots t 9)

/-- The scratch operand. -/
abbrev scM0_0 : Memref sig .tc .vmem S128x128 .f32 := Memref.whole cc0_scratch0

/-- The pipeline's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The proof data of the pipeline: the arrays as the region finds them, and after the body at a point each input block in
    place and each output block at its function of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 0 t) (iblk m c 1 t) (iblk m c 2 t) (iblk m c 3 t) (iblk m c 4 t) (iblk m c 5 t)
    | ⟨8, _⟩ => out8 (iblk m c 0 t) (iblk m c 1 t) (iblk m c 2 t) (iblk m c 3 t)
    | ⟨9, _⟩ => out9 (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out7 (iblk m c 0 t) (iblk m c 1 t) (iblk m c 2 t) (iblk m c 3 t) (iblk m c 4 t) (iblk m c 5 t) := by dsimp only [dats]
theorem after0_8 (c : Dev nD) (t : Fin cfg0.N) : (dats m 0 c).after 8 t = out8 (iblk m c 0 t) (iblk m c 1 t) (iblk m c 2 t) (iblk m c 3 t) := by dsimp only [dats]
theorem after0_9 (c : Dev nD) (t : Fin cfg0.N) : (dats m 0 c).after 9 t = out9 (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((sound_kernel c (grid0.coords t) _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  iintro ⟨H0, H1, H2, H3, H4, H5, H6, H7, H8, H9, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every weakly fair execution terminates with every array of the pipeline at what the proof data computes, the host
    lines after the region applied, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.Ker

end
-- ==== Proof.KRun.lean ====
module

public import proofs.«01_k».proof.Proof.Tile
public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Tactic

/-! The kernel's body run once: what it leaves in its four output blocks is what Tile.lean states. -/

@[expose] public section

set_option maxRecDepth 16384

noncomputable section

namespace Cert.Proof.Krn
open Cert.Kernel Cert.Kernel.Gen Cert.Proof.Ker
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 9972000 in
/-- The body at any point, on whole staging memrefs holding the input blocks, leaves each output block at the stated
    function of them and the scratch at some contents. -/
theorem sound_kernel (c : Dev nD) (i : grid0.Coords) (arg1 : Memref sig .tc .smem S1 .f32) (harg1 : arg1.IsWhole) (arg2 : Memref sig .tc .vmem S128x8192 .bf16) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S128x8192 .fp8e4m3) (harg7 : arg7.IsWhole) (arg8 : Memref sig .tc .vmem S1x64x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S128x128 .f32) (harg11 : arg11.IsWhole)
    (x0 : Vec F S1 .f32) (x1 : Vec F S128x8192 .bf16) (x2 : Vec F S1x1x128 .f32) (x3 : Vec F S1x1x128 .f32) (x4 : Vec F S1x8192 .f32) (x5 : Vec F S1x8192 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6 x0 x1 x2 x3 x4 x5) ∗ owns (c : Thread nD τ) arg8 fullShare (out7 x0 x1 x2 x3 x4 x5) ∗ owns (c : Thread nD τ) arg9 fullShare (out8 x0 x1 x2 x3) ∗ owns (c : Thread nD τ) arg10 fullShare (out9 x0 x1 x2 x3) ∗ (∃ d, owns (c : Thread nD τ) arg11 fullShare d)) -∗ K ⟨⟩))
          ⊢ wp frame (wpE (defs₀ (F := F)) Variants.none c none) E (cc0_tp_layernorm_fp8 i arg1 harg1 arg2 harg2 arg3 harg3 arg4 harg4 arg5 harg5 arg6 harg6 arg7 harg7 arg8 harg8 arg9 harg9 arg10 harg10 arg11 harg11) K := by
    intro E K
    simp only [cc0_tp_layernorm_fp8_eq_skeleton]; unfold cc0_tp_layernorm_fp8_skel
    simp only [k0_part464_eq_skeleton, k0_part457_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part458_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part459_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part460_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part461_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part462_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part463_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    subst hf0 hf1 hf2 hf3 hf4 hf5
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro
      exact View.read_writes_eq_canon arg7.view f6 (codePieces (yOf (arg1.view.read (Elt F) f0) (arg2.view.read (Elt F) f1) (arg3.view.read (Elt F) f2) (arg4.view.read (Elt F) f3) (arg5.view.read (Elt F) f4) (arg6.view.read (Elt F) f5)) 128) (cover_codes _)
    isplitl [H7]
    · iexists _; isplitr
      swap; · iexact H7
      ipureintro
      refine Eq.trans ?_ ((View.read_writes_eq_canon arg8.view f7 _ (cover_sc _)).trans (congrArg (fun p => View.canon [⟨rsc, p⟩]) (scalesOf_scratch arg11.view fs0 (yOf (arg1.view.read (Elt F) f0) (arg2.view.read (Elt F) f1) (arg3.view.read (Elt F) f2) (arg4.view.read (Elt F) f3) (arg5.view.read (Elt F) f4) (arg6.view.read (Elt F) f5)))))
      rfl
    isplitl [H8]
    · iexists _; isplitr
      swap; · iexact H8
      ipureintro
      refine Eq.trans ?_ (View.read_writes_eq_canon arg9.view f8 _ (cover_p (meanOf (meanT (cntOf (arg1.view.read (Elt F) f0)) (arg2.view.read (Elt F) f1) (arg3.view.read (Elt F) f2)) (rstdT (cntOf (arg1.view.read (Elt F) f0)) (arg2.view.read (Elt F) f1) (arg3.view.read (Elt F) f2) (arg4.view.read (Elt F) f3)))))
      rfl
    isplitl [H9]
    · iexists _; isplitr
      swap; · iexact H9
      ipureintro
      refine Eq.trans ?_ (View.read_writes_eq_canon arg10.view f9 _ (cover_p (rstdOf (meanT (cntOf (arg1.view.read (Elt F) f0)) (arg2.view.read (Elt F) f1) (arg3.view.read (Elt F) f2)) (rstdT (cntOf (arg1.view.read (Elt F) f0)) (arg2.view.read (Elt F) f1) (arg3.view.read (Elt F) f2) (arg4.view.read (Elt F) f3)))))
      rfl
    iexists _; iexists _; isplitr
    swap; · iexact HS0
    ipureintro; rfl

end Cert.Proof.Krn
end
-- ==== Proof.KData.lean ====
module

public import proofs.«01_k».proof.Proof.KRun
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Tactic
public import Idealize.ShloMosaic.Lib.Claim

/-! The pipeline's proof data, its run, and the frame claim of the kernel as it runs. -/

@[expose] public section

set_option maxRecDepth 16384

noncomputable section

namespace Cert.Proof.Krn
open Cert.Kernel Cert.Kernel.Gen Cert.Proof.Ker
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's current staging memref at a point. -/

abbrev ms0_0 (t : Fin cfg0.N) : Memref sig .tc .smem S1 .f32 := win0_0.stage (cfg0.slots t 0)
abbrev ms0_1 (t : Fin cfg0.N) : Memref sig .tc .vmem S128x8192 .bf16 := win0_1.stage (cfg0.slots t 1)
abbrev ms0_2 (t : Fin cfg0.N) : Memref sig .tc .vmem S1x1x128 .f32 := win0_2.stage (cfg0.slots t 2)
abbrev ms0_3 (t : Fin cfg0.N) : Memref sig .tc .vmem S1x1x128 .f32 := win0_3.stage (cfg0.slots t 3)
abbrev ms0_4 (t : Fin cfg0.N) : Memref sig .tc .vmem S1x8192 .f32 := win0_4.stage (cfg0.slots t 4)
abbrev ms0_5 (t : Fin cfg0.N) : Memref sig .tc .vmem S1x8192 .f32 := win0_5.stage (cfg0.slots t 5)
abbrev ms0_6 (t : Fin cfg0.N) : Memref sig .tc .vmem S128x8192 .fp8e4m3 := win0_6.stage (cfg0.slots t 6)
abbrev ms0_7 (t : Fin cfg0.N) : Memref sig .tc .vmem S1x64x128 .f32 := win0_7.stage (cfg0.slots t 7)
abbrev ms0_8 (t : Fin cfg0.N) : Memref sig .tc .vmem S1x1x128 .f32 := win0_8.stage (cfg0.slots t 8)
abbrev ms0_9 (t : Fin cfg0.N) : Memref sig .tc .vmem S1x1x128 .f32 := win0_9.stage (cfg0.slots t 9)

/-- The scratch operand. -/
abbrev scM0_0 : Memref sig .tc .vmem S128x128 .f32 := Memref.whole cc0_scratch0

/-- The pipeline's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The proof data of the pipeline: the arrays as the region finds them, and after the body at a point each input block in
    place and each output block at its function of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 0 t) (iblk m c 1 t) (iblk m c 2 t) (iblk m c 3 t) (iblk m c 4 t) (iblk m c 5 t)
    | ⟨8, _⟩ => out8 (iblk m c 0 t) (iblk m c 1 t) (iblk m c 2 t) (iblk m c 3 t)
    | ⟨9, _⟩ => out9 (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out7 (iblk m c 0 t) (iblk m c 1 t) (iblk m c 2 t) (iblk m c 3 t) (iblk m c 4 t) (iblk m c 5 t) := by dsimp only [dats]
theorem after0_8 (c : Dev nD) (t : Fin cfg0.N) : (dats m 0 c).after 8 t = out8 (iblk m c 0 t) (iblk m c 1 t) (iblk m c 2 t) (iblk m c 3 t) := by dsimp only [dats]
theorem after0_9 (c : Dev nD) (t : Fin cfg0.N) : (dats m 0 c).after 9 t = out9 (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((sound_kernel c (grid0.coords t) _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  iintro ⟨H0, H1, H2, H3, H4, H5, H6, H7, H8, H9, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every weakly fair execution terminates with every array of the pipeline at what the proof data computes, the host
    lines after the region applied, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.Krn

end
-- ==== Proof.Val.lean ====
module

public import proofs.«01_k».proof.Proof.Tile
public import Idealize.ShloMosaic.Lib.Pipeline.ValueKit

/-! What a grid point's blocks hold at an index, over the extended reals: each is one formula of a row of activations. -/

@[expose] public section

set_option maxRecDepth 16384

noncomputable section

namespace Cert.Proof.Ker
open Cert.KernelIdeal Cert.KernelIdeal.Gen
open Idealize.ShloMosaic Idealize.ShloMosaic.TcCoe

/-! ## One row's formulas -/

/-- The row length. -/
abbrev cD : EReal := Ideal.ofBits .f32 0x46000000#32
/-- The variance's offset. -/
abbrev cE : EReal := Ideal.ofBits .f32 0x3727C5AC#32
/-- The row's own mean. -/
def fLoc (X : Fin 8192 → EReal) : EReal := Ideal.div (∑ k, X k) cD
/-- The row's own sum of squared deviations. -/
def fSq (X : Fin 8192 → EReal) : EReal := ∑ k, (X k - fLoc X) * (X k - fLoc X)
/-- The merged mean. -/
def fMean (n p : EReal) (X : Fin 8192 → EReal) : EReal := p + (fLoc X - p) * Ideal.div cD (n + cD)
/-- The merged reciprocal deviation. -/
def fRstd (n p p2 : EReal) (X : Fin 8192 → EReal) : EReal :=
  Ideal.rsqrt (Ideal.div (p2 + fSq X + (fLoc X - p) * (fLoc X - p) * Ideal.div (n * cD) (n + cD)) (n + cD) + cE)
/-- The normalised row. -/
def fY (n p p2 : EReal) (X G B : Fin 8192 → EReal) (k : Fin 8192) : EReal :=
  (X k - fMean n p X) * fRstd n p p2 X * G k + B k

/-! ## The tiles at an index -/

theorem xT_apply (x : Vec Ideal S128x8192 .bf16) (r : Fin 4) (c : Fin 32) (i : Fin 32) (j : Fin 256) :
    xT x r c (ix2 i j : S32x256.Idx) = x (ix2 ⟨32 * r.val + i.val, by omega⟩ ⟨256 * c.val + j.val, by omega⟩ : S128x8192.Idx) := by
  pointwise [xT]

theorem rowT_apply (p : Vec Ideal S1x1x128 .f32) (r : Fin 4) (i : Fin 32) (z : Fin 1) :
    rowT p r (ix2 i z : S32x1.Idx) = p (ix3 0 0 ⟨32 * r.val + i.val, by omega⟩ : S1x1x128.Idx) := by
  pointwise [rowT, colT]

theorem lanes_apply (g : Fin 32 → FVec Ideal S32x256 .f32) (i : Fin 32) (l : Fin 128) (n : ℕ) (h : n ≤ 32) :
    lanes g n h (ix2 i l : S32x128.Idx) = ∑ c : Fin n, (g ⟨c.val, by omega⟩ (ix2 i ⟨l.val, by omega⟩ : S32x256.Idx)
      + g ⟨c.val, by omega⟩ (ix2 i ⟨128 + l.val, by omega⟩ : S32x256.Idx)) := by
  induction n with
  | zero => pointwise [lanes]; simp
  | succ n ih =>
    rw [Fin.sum_univ_castSucc]
    pointwise [lanes, loH, hiH, ih]
    rw [add_assoc]; rfl

theorem rowSum_apply (g : Fin 32 → FVec Ideal S32x256 .f32) (i : Fin 32) (z : Fin 1) (f : Fin 8192 → EReal)
    (hg : ∀ (c : Fin 32) (j : Fin 256), g c (ix2 i j : S32x256.Idx) = f ⟨256 * c.val + j.val, by omega⟩) :
    rowSum g (ix2 i z : S32x1.Idx) = ∑ k, f k := by
  pointwise [rowSum, lanes_apply]
  rw [Finset.sum_comm, Fin.sum_univ_tiles 32 256 rfl f]
  refine Finset.sum_congr rfl fun c _ => ?_
  rw [Fin.sum_univ_two_halves 128 128 rfl, ← Finset.sum_add_distrib]
  refine Finset.sum_congr rfl fun l _ => ?_
  rw [hg, hg]
  refine congrArg₂ (· + ·) (congrArg f (Fin.ext ?_)) (congrArg f (Fin.ext ?_))
  · show 256 * c.val + l.val = c.val * 256 + l.val; omega
  · show 256 * c.val + (128 + l.val) = c.val * 256 + (128 + l.val); omega

/-- Row `i` of a block of activations. -/
def rowX (x : Vec Ideal S128x8192 .bf16) (i : Fin 128) : Fin 8192 → EReal := fun k => x (ix2 i k : S128x8192.Idx)
/-- A parameter row. -/
def rowG (g : Vec Ideal S1x8192 .f32) : Fin 8192 → EReal := fun k => g (ix2 0 k : S1x8192.Idx)
/-- Lane `i` of a block of statistics. -/
def lane (p : Vec Ideal S1x1x128 .f32) (i : Fin 128) : EReal := p (ix3 0 0 i : S1x1x128.Idx)
/-- Row `i` of row group `r`. -/
abbrev rowOf (r : Fin 4) (i : Fin 32) : Fin 128 := ⟨32 * r.val + i.val, by omega⟩

theorem mLoc_apply (x : Vec Ideal S128x8192 .bf16) (r : Fin 4) (i : Fin 32) (z : Fin 1) :
    mLoc x r (ix2 i z : S32x1.Idx) = fLoc (rowX x (rowOf r i)) := by
  have h := rowSum_apply (xT x r) i z (rowX x (rowOf r i)) fun c j => xT_apply x r c i j
  pointwise [mLoc, h]
  rfl

theorem m2Loc_apply (x : Vec Ideal S128x8192 .bf16) (r : Fin 4) (i : Fin 32) (z : Fin 1) :
    m2Loc x r (ix2 i z : S32x1.Idx) = fSq (rowX x (rowOf r i)) := by
  refine rowSum_apply (sqT x r) i z (fun k => (rowX x (rowOf r i) k - fLoc (rowX x (rowOf r i))) * (rowX x (rowOf r i) k - fLoc (rowX x (rowOf r i)))) fun c j => ?_
  pointwise [sqT, spread, mLoc_apply, xT_apply]
  rfl

theorem cntOf_eq (p : Vec Ideal S1 .f32) : cntOf p = p (ix1 0 : S1.Idx) := by
  pointwise [cntOf]

theorem meanT_apply (n : EReal) (x : Vec Ideal S128x8192 .bf16) (p : Vec Ideal S1x1x128 .f32) (r : Fin 4) (i : Fin 32) (z : Fin 1) :
    meanT (F := Ideal) n x p r (ix2 i z : S32x1.Idx) = fMean n (lane p (rowOf r i)) (rowX x (rowOf r i)) := by
  pointwise [meanT, deltaT, mLoc_apply, rowT_apply, wB, nS, fMean]
  rfl

theorem rstdT_apply (n : EReal) (x : Vec Ideal S128x8192 .bf16) (p p2 : Vec Ideal S1x1x128 .f32) (r : Fin 4) (i : Fin 32) (z : Fin 1) :
    rstdT (F := Ideal) n x p p2 r (ix2 i z : S32x1.Idx) = fRstd n (lane p (rowOf r i)) (lane p2 (rowOf r i)) (rowX x (rowOf r i)) := by
  pointwise [rstdT, m2T, deltaT, m2Loc_apply, mLoc_apply, rowT_apply, wAB, nS, fRstd]
  rfl

theorem yT_apply (n : EReal) (x : Vec Ideal S128x8192 .bf16) (p p2 : Vec Ideal S1x1x128 .f32) (g b : Vec Ideal S1x8192 .f32)
    (r : Fin 4) (c : Fin 32) (i : Fin 32) (j : Fin 256) :
    yT (F := Ideal) n x p p2 g b r c (ix2 i j : S32x256.Idx)
      = fY n (lane p (rowOf r i)) (lane p2 (rowOf r i)) (rowX x (rowOf r i)) (rowG g) (rowG b) ⟨256 * c.val + j.val, by omega⟩ := by
  pointwise [yT, spread, parT, meanT_apply, rstdT_apply, xT_apply]
  rfl

/-- The largest absolute value of a block. -/
def fA (Y : Fin 128 → EReal) : EReal :=
  Finset.univ.fold max (Ideal.ofBits .f32 0xFF800000#32) fun l => FloatOps.absf (F := Ideal) (φ := .f32) (Y l)

theorem amaxH_apply (v : FVec Ideal S32x128 .f32) (i : Fin 32) (z : Fin 1) :
    amaxH v (ix2 i z : S32x1.Idx) = fA fun l => v (ix2 i l : S32x128.Idx) := by
  pointwise [amaxH]
  rfl

/-- The inverse scale of one block maximum. -/
def invK (a : EReal) : EReal := invS (F := Ideal) (FloatOps.mulf (F := Ideal) (φ := .f32) a (FloatOps.ofBits .f32 0x3B124925#32))

/-- A value held to the code range. -/
def fClip (y : EReal) : EReal := min (Ideal.ofBits .f32 0x43E00000#32) (max (Ideal.ofBits .f32 0xC3E00000#32) y)

theorem qH_apply (v : FVec Ideal S32x128 .f32) (i : Fin 32) (l : Fin 128) :
    qH v (ix2 i l : S32x128.Idx) = fClip (v (ix2 i l : S32x128.Idx) * invK (fA fun l => v (ix2 i l : S32x128.Idx))) := by
  pointwise [qH, invB_apply, overQ, amaxH_apply]
  rfl

theorem codeT_apply (v : FVec Ideal S32x256 .f32) (i : Fin 32) (h : Fin 2) (l : Fin 128) :
    codeT v (ix2 i ⟨128 * h.val + l.val, by omega⟩ : S32x256.Idx)
      = fClip (v (ix2 i ⟨128 * h.val + l.val, by omega⟩ : S32x256.Idx)
          * invK (fA fun l => v (ix2 i ⟨128 * h.val + l.val, by omega⟩ : S32x256.Idx))) := by
  fin_vals h with hh
  · pointwise [codeT, loH, qH_apply, hh]
    done
  · pointwise [codeT, hiH, qH_apply, hh]
    done

/-- A column stacked of four, at a row. -/
theorem stack_apply (a : Fin 4 → FVec Ideal S32x1 .f32) (r : Fin 4) (i : Fin 32) (z : Fin 1) :
    stack a (ix2 (rowOf r i) z : S128x1.Idx) = a r (ix2 i 0 : S32x1.Idx) := by
  pointwise [stack]
  fin_vals r with hr
  all_goals simp only [hr]
  · obtain rfl : r = 0 := Fin.ext hr
    rw [dif_pos (by omega)]
    blk_ext
  · obtain rfl : r = 1 := Fin.ext hr
    rw [dif_neg (by omega), dif_pos (by omega)]
    blk_ext
  · obtain rfl : r = 2 := Fin.ext hr
    rw [dif_neg (by omega), dif_neg (by omega), dif_pos (by omega)]
    blk_ext
  · obtain rfl : r = 3 := Fin.ext hr
    rw [dif_neg (by omega), dif_neg (by omega), dif_neg (by omega)]
    blk_ext

theorem meanOf_apply (a b : Fin 4 → FVec Ideal S32x1 .f32) (r : Fin 4) (i : Fin 32) :
    meanOf a b (ix3 0 0 (rowOf r i) : S1x1x128.Idx) = a r (ix2 i 0 : S32x1.Idx) := by
  refine Eq.trans ?_ (stack_apply a r i 0)
  pointwise [meanOf, statsT]

theorem rstdOf_apply (a b : Fin 4 → FVec Ideal S32x1 .f32) (r : Fin 4) (i : Fin 32) :
    rstdOf a b (ix3 0 0 (rowOf r i) : S1x1x128.Idx) = b r (ix2 i 0 : S32x1.Idx) := by
  refine Eq.trans ?_ (stack_apply b r i 0)
  pointwise [rstdOf, statsT]

/-! ## The blocks a point leaves -/

/-- Every row is a row of a row group. -/
theorem exists_row (i : Fin 128) : ∃ r k, i = rowOf r k :=
  ⟨⟨i.val / 32, by omega⟩, ⟨i.val % 32, by omega⟩, Fin.ext (by show i.val = 32 * (i.val / 32) + i.val % 32; omega)⟩

/-- A property of every pair of stores of block maxima is one of each store among the first `n` pairs. -/
theorem forall_amaxPieces (y : Fin 4 → Fin 32 → FVec Ideal S32x256 .f32) (P : View.Piece (Elt Ideal) S128x128 .f32 → Prop)
    (hlo : ∀ (r : Fin 4) (c : Fin 32) (h : 2 * c.val < 64), P ⟨rs r ⟨2 * c.val, h⟩, (amaxS (loH (y r c)) : Vec Ideal S32x1 .f32)⟩)
    (hhi : ∀ (r : Fin 4) (c : Fin 32) (h : 2 * c.val + 1 < 64), P ⟨rs r ⟨2 * c.val + 1, h⟩, (amaxS (hiH (y r c)) : Vec Ideal S32x1 .f32)⟩) :
    ∀ n, ∀ p ∈ amaxPieces y n, P p
  | 0 => by intro p hp; exact absurd hp List.not_mem_nil
  | n + 1 => by
    rw [amaxPieces, List.forall_mem_cons, List.forall_mem_cons]
    exact ⟨hhi (gOf n) (cOf n) _, hlo (gOf n) (cOf n) _, forall_amaxPieces y P hlo hhi n⟩

/-- A property of every store of codes is one of each store among the first `n`. -/
theorem forall_codePieces (y : Fin 4 → Fin 32 → FVec Ideal S32x256 .f32) (P : View.Piece (Elt Ideal) S128x8192 .fp8e4m3 → Prop)
    (h : ∀ (r : Fin 4) (c : Fin 32), P ⟨rx r c, (codeT (y r c) : Vec Ideal S32x256 .fp8e4m3)⟩) : ∀ n, ∀ p ∈ codePieces y n, P p
  | 0 => by intro p hp; exact absurd hp List.not_mem_nil
  | n + 1 => by
    rw [codePieces, List.forall_mem_cons]
    exact ⟨h (gOf n) (cOf n), forall_codePieces y P h n⟩

section
variable (x0 : Vec Ideal S1 .f32) (x1 : Vec Ideal S128x8192 .bf16) (x2 x3 : Vec Ideal S1x1x128 .f32) (x4 x5 : Vec Ideal S1x8192 .f32)

/-- The normalised row `i` of a block. -/
def blkY (i : Fin 128) (k : Fin 8192) : EReal :=
  fY (x0 (ix1 0 : S1.Idx)) (lane x2 i) (lane x3 i) (rowX x1 i) (rowG x4) (rowG x5) k

/-- The column block `j` of a row. -/
def blkOf (Y : Fin 8192 → EReal) (j : Fin 64) : Fin 128 → EReal := fun l => Y ⟨128 * j.val + l.val, by omega⟩

/-- A normalised value depends on its row and column alone. -/
theorem blkY_congr {i i' : Fin 128} {k k' : Fin 8192} (hi : i = i') (hk : k = k') :
    blkY x0 x1 x2 x3 x4 x5 i k = blkY x0 x1 x2 x3 x4 x5 i' k' := by rw [hi, hk]

/-- A code before rounding. -/
def blkC (i : Fin 128) (k : Fin 8192) : EReal :=
  fClip (blkY x0 x1 x2 x3 x4 x5 i k * invK (fA (blkOf (blkY x0 x1 x2 x3 x4 x5 i) ⟨k.val / 128, by omega⟩)))

theorem out8_apply (i : Fin 128) :
    out8 x0 x1 x2 x3 (ix3 0 0 i : S1x1x128.Idx) = fMean (x0 (ix1 0 : S1.Idx)) (lane x2 i) (rowX x1 i) := by
  obtain ⟨r, k, rfl⟩ := exists_row i
  rw [out8, View.canon_unit_zero (by decide), meanOf_apply, meanT_apply, cntOf_eq]

theorem out9_apply (i : Fin 128) :
    out9 x0 x1 x2 x3 (ix3 0 0 i : S1x1x128.Idx) = fRstd (x0 (ix1 0 : S1.Idx)) (lane x2 i) (lane x3 i) (rowX x1 i) := by
  obtain ⟨r, k, rfl⟩ := exists_row i
  rw [out9, View.canon_unit_zero (by decide), rstdOf_apply, rstdT_apply, cntOf_eq]

theorem amaxOf_apply (i : Fin 128) (j : Fin 64) :
    amaxOf x0 x1 x2 x3 x4 x5 (ix2 i ⟨j.val, by omega⟩ : S128x128.Idx) = fA (blkOf (blkY x0 x1 x2 x3 x4 x5 i) j) := by
  refine (View.canon_apply_of_pieces (fun z : S128x128.Idx => fA (blkOf (blkY x0 x1 x2 x3 x4 x5 (z 0)) ⟨(z 1).val % 64, Nat.mod_lt _ (by decide)⟩))
    _ (forall_amaxPieces _ _ ?_ ?_ 128) _ (cover_amax _ _ j.2)).trans ?_
  · intro r c h z
    idx_vars z
    have hz := z1.2
    have e0 : (rs r ⟨2 * c.val, h⟩).emb (ix2 z0 z1) 0 = rowOf r z0 := Fin.ext (by show 32 * r.val + 1 * z0.val = 32 * r.val + z0.val; omega)
    have e1 : ((rs r ⟨2 * c.val, h⟩).emb (ix2 z0 z1) 1).val = 2 * c.val := by show 2 * c.val + 1 * z1.val = _; omega
    pointwise [amaxS, amaxH_apply, loH, yOf, yT_apply, cntOf_eq]
    exact congrArg fA (funext fun l => blkY_congr x0 x1 x2 x3 x4 x5 e0.symm (Fin.ext (by
      show 256 * c.val + l.val = 128 * (((rs r ⟨2 * c.val, h⟩).emb (ix2 z0 z1) 1).val % 64) + l.val
      rw [e1]; omega)))
  · intro r c h z
    idx_vars z
    have hz := z1.2
    have e0 : (rs r ⟨2 * c.val + 1, h⟩).emb (ix2 z0 z1) 0 = rowOf r z0 := Fin.ext (by show 32 * r.val + 1 * z0.val = 32 * r.val + z0.val; omega)
    have e1 : ((rs r ⟨2 * c.val + 1, h⟩).emb (ix2 z0 z1) 1).val = 2 * c.val + 1 := by show 2 * c.val + 1 + 1 * z1.val = _; omega
    pointwise [amaxS, amaxH_apply, hiH, yOf, yT_apply, cntOf_eq]
    exact congrArg fA (funext fun l => blkY_congr x0 x1 x2 x3 x4 x5 e0.symm (Fin.ext (by
      show 256 * c.val + (128 + l.val) = 128 * (((rs r ⟨2 * c.val + 1, h⟩).emb (ix2 z0 z1) 1).val % 64) + l.val
      rw [e1]; omega)))
  · exact congrArg (fun j => fA (blkOf (blkY x0 x1 x2 x3 x4 x5 i) j)) (Fin.ext (Nat.mod_eq_of_lt j.2))

theorem out7_apply (j : Fin 64) (i : Fin 128) :
    out7 x0 x1 x2 x3 x4 x5 (ix3 0 j i : S1x64x128.Idx) = scaleM (F := Ideal) (fA (blkOf (blkY x0 x1 x2 x3 x4 x5 i) j)) := by
  rw [out7, View.canon_unit_zero (by decide), scalesOf_apply, amaxOf_apply]

theorem out6_apply (i : Fin 128) (k : Fin 8192) :
    out6 x0 x1 x2 x3 x4 x5 (ix2 i k : S128x8192.Idx) = blkC x0 x1 x2 x3 x4 x5 i k := by
  refine (View.canon_apply_of_pieces (fun z : S128x8192.Idx => blkC x0 x1 x2 x3 x4 x5 (z 0) (z 1))
    _ (forall_codePieces _ _ ?_ 128) _ (cover_codes _ _)).trans rfl
  intro r c z
  idx_vars z
  obtain ⟨h, l, rfl⟩ : ∃ (h : Fin 2) (l : Fin 128), z1 = ⟨128 * h.val + l.val, by omega⟩ :=
    ⟨⟨z1.val / 128, by omega⟩, ⟨z1.val % 128, by omega⟩, Fin.ext (by show z1.val = 128 * (z1.val / 128) + z1.val % 128; omega)⟩
  have e0 : (rx r c).emb (ix2 z0 ⟨128 * h.val + l.val, by omega⟩) 0 = rowOf r z0 := Fin.ext (by show 32 * r.val + 1 * z0.val = 32 * r.val + z0.val; omega)
  have e1 : (rx r c).emb (ix2 z0 ⟨128 * h.val + l.val, by omega⟩) 1 = (⟨256 * c.val + (128 * h.val + l.val), by omega⟩ : Fin 8192) :=
    Fin.ext (by show 256 * c.val + 1 * (128 * h.val + l.val) = 256 * c.val + (128 * h.val + l.val); omega)
  refine (codeT_apply _ z0 h l).trans (Eq.trans ?_ (congrArg₂ (blkC x0 x1 x2 x3 x4 x5) e0 e1).symm)
  simp only [yOf, yT_apply, cntOf_eq]
  refine congrArg fClip (congrArg₂ (· * ·) rfl (congrArg (fun Y => invK (fA Y)) (funext fun q => blkY_congr x0 x1 x2 x3 x4 x5 rfl (Fin.ext ?_))))
  show 256 * c.val + (128 * h.val + q.val) = 128 * ((256 * c.val + (128 * h.val + l.val)) / 128) + q.val
  omega

end

/-! ## One token of the arguments -/

/-- A token's activations. -/
def tX (X : FVec Ideal S1024x3x8192 .bf16) (s : Fin 1024) (b : Fin 3) : Fin 8192 → EReal := fun k => X (ix3 s b k)
/-- A token's peer statistic. -/
def tP (P : FVec Ideal S1x1024x3 .f32) (s : Fin 1024) (b : Fin 3) : EReal := P (ix3 0 s b)
/-- A parameter row. -/
def tG (G : FVec Ideal S8192 .f32) : Fin 8192 → EReal := fun k => G (ix1 k)
/-- The peer's count. -/
def tN (N : FVec Ideal S1 .f32) : EReal := N (ix1 0)

section
variable (X : FVec Ideal S1024x3x8192 .bf16) (N : FVec Ideal S1 .f32) (P P2 : FVec Ideal S1x1024x3 .f32) (G B : FVec Ideal S8192 .f32)

/-- A token's merged mean. -/
def tMean (s : Fin 1024) (b : Fin 3) : EReal := fMean (tN N) (tP P s b) (tX X s b)
/-- A token's reciprocal deviation. -/
def tRstd (s : Fin 1024) (b : Fin 3) : EReal := fRstd (tN N) (tP P s b) (tP P2 s b) (tX X s b)
/-- A token's normalised row. -/
def tY (s : Fin 1024) (b : Fin 3) (k : Fin 8192) : EReal := fY (tN N) (tP P s b) (tP P2 s b) (tX X s b) (tG G) (tG B) k
/-- The largest absolute value of a token's column block. -/
def tA (s : Fin 1024) (b : Fin 3) (j : Fin 64) : EReal := fA (blkOf (tY X N P P2 G B s b) j)
/-- A token's code before rounding, from its normalised value and the inverse scale of its column block. -/
def tC (s : Fin 1024) (b : Fin 3) (k : Fin 8192) : EReal :=
  fClip (tY X N P P2 G B s b k * invK (tA X N P P2 G B s b ⟨k.val / 128, by omega⟩))
end

end Cert.Proof.Ker
end
-- ==== Proof.Arr.lean ====
module

public import proofs.«01_k».proof.Proof.Val
public import proofs.«01_k».proof.Proof.Data
public import Idealize.ShloMosaic.Lib.StableHlo.ReadAt
public import Idealize.ShloMosaic.Lib.Pipeline.ValueKit

/-! What the idealised kernel's four output arrays hold after the run, as formulas of the argument arrays. -/

@[expose] public section

set_option maxRecDepth 16384

noncomputable section

namespace Cert.Proof.Ker
open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- Which block of each window a point works on. -/
theorem idx : ∀ t : Fin cfg0.N, win0_0.index t = ![0] ∧ win0_1.index t = ![t.val, 0] ∧ win0_2.index t = ![t.val / 8, 0, t.val % 8]
    ∧ win0_3.index t = ![t.val / 8, 0, t.val % 8] ∧ win0_4.index t = ![0, 0] ∧ win0_5.index t = ![0, 0] ∧ win0_6.index t = ![t.val, 0]
    ∧ win0_7.index t = ![t.val / 8, 0, t.val % 8] ∧ win0_8.index t = ![t.val / 8, 0, t.val % 8] ∧ win0_9.index t = ![t.val / 8, 0, t.val % 8]
    ∧ t.val < 24 :=
  (by decide +kernel : ∀ t : Fin grid0.N, _)

/-- The position in the sequence of a point's row. -/
abbrev sOf (t : Fin cfg0.N) (i : Fin 128) : Fin 1024 := ⟨t.val % 8 * 128 + i.val, by omega⟩
/-- The batch entry of a point. -/
abbrev bOf (t : Fin cfg0.N) : Fin 3 := ⟨t.val / 8, by have := (idx t).2.2.2.2.2.2.2.2.2.2; omega⟩

theorem cnt_blk (c : Dev nD) (t : Fin cfg0.N) : (show EReal from iblk m c 0 t (ix1 0 : S1.Idx)) = tN (m ((c : Thread nD τ).loc main_arg1)) := by
  unfold tN
  blk_point [iblk, V, idx t]

/-- The rows of activations, batch entry by batch entry. -/
theorem V1_at (c : Dev nD) (s : Fin 1024) (b : Fin 3) (k : Fin 8192) :
    (show EReal from V m c main_v1 (ix2 ⟨b.val * 1024 + s.val, by omega⟩ k : S3072x8192.Idx))
      = m ((c : Thread nD τ).loc main_arg0) (ix3 s b k : S1024x3x8192.Idx) := by
  show V m c _ _ = _
  unfold V
  after_reads_at

theorem V2_at (c : Dev nD) (s : Fin 1024) (b : Fin 3) :
    (show EReal from V m c main_v2 (ix3 b 0 s : S3x1x1024.Idx)) = m ((c : Thread nD τ).loc main_arg2) (ix3 0 s b : S1x1024x3.Idx) := by
  show V m c _ _ = _
  unfold V
  after_reads_at

theorem V3_at (c : Dev nD) (s : Fin 1024) (b : Fin 3) :
    (show EReal from V m c main_v3 (ix3 b 0 s : S3x1x1024.Idx)) = m ((c : Thread nD τ).loc main_arg3) (ix3 0 s b : S1x1024x3.Idx) := by
  show V m c _ _ = _
  unfold V
  after_reads_at

theorem V4_at (c : Dev nD) (k : Fin 8192) :
    (show EReal from V m c main_v4 (ix2 0 k : S1x8192.Idx)) = m ((c : Thread nD τ).loc main_arg4) (ix1 k : S8192.Idx) := by
  show V m c _ _ = _
  unfold V
  after_reads_at

theorem V5_at (c : Dev nD) (k : Fin 8192) :
    (show EReal from V m c main_v5 (ix2 0 k : S1x8192.Idx)) = m ((c : Thread nD τ).loc main_arg5) (ix1 k : S8192.Idx) := by
  show V m c _ _ = _
  unfold V
  after_reads_at

theorem rowX_blk (c : Dev nD) (t : Fin cfg0.N) (i : Fin 128) :
    rowX (iblk m c 1 t) i = tX (m ((c : Thread nD τ).loc main_arg0)) (sOf t i) (bOf t) := by
  funext k
  unfold rowX tX
  refine Eq.trans ?_ (V1_at m c (sOf t i) (bOf t) k)
  show iblk m c 1 t (ix2 i k) = _
  blk_simp [iblk]
  refine congrArg (V m c main_v1) ?_
  blk_ext [idx t]

theorem lane2_blk (c : Dev nD) (t : Fin cfg0.N) (i : Fin 128) :
    lane (iblk m c 2 t) i = tP (m ((c : Thread nD τ).loc main_arg2)) (sOf t i) (bOf t) := by
  unfold lane tP
  refine Eq.trans ?_ (V2_at m c (sOf t i) (bOf t))
  blk_simp [iblk]
  refine congrArg (V m c main_v2) ?_
  blk_ext [idx t]

theorem lane3_blk (c : Dev nD) (t : Fin cfg0.N) (i : Fin 128) :
    lane (iblk m c 3 t) i = tP (m ((c : Thread nD τ).loc main_arg3)) (sOf t i) (bOf t) := by
  unfold lane tP
  refine Eq.trans ?_ (V3_at m c (sOf t i) (bOf t))
  blk_simp [iblk]
  refine congrArg (V m c main_v3) ?_
  blk_ext [idx t]

theorem rowG4_blk (c : Dev nD) (t : Fin cfg0.N) : rowG (iblk m c 4 t) = tG (m ((c : Thread nD τ).loc main_arg4)) := by
  funext k
  unfold rowG tG
  refine Eq.trans ?_ (V4_at m c k)
  blk_simp [iblk]
  refine congrArg (V m c main_v4) ?_
  blk_ext [idx t]

theorem rowG5_blk (c : Dev nD) (t : Fin cfg0.N) : rowG (iblk m c 5 t) = tG (m ((c : Thread nD τ).loc main_arg5)) := by
  funext k
  unfold rowG tG
  refine Eq.trans ?_ (V5_at m c k)
  blk_simp [iblk]
  refine congrArg (V m c main_v5) ?_
  blk_ext [idx t]

end Cert.Proof.Ker
end
-- ==== Proof.Out.lean ====
module

public import proofs.«01_k».proof.Proof.Arr

/-! The idealised kernel's four output arrays after the run, and its four results, as formulas of the argument arrays. -/

@[expose] public section

set_option maxRecDepth 16384

noncomputable section

namespace Cert.Proof.Ker
open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The merged mean of a token, from the argument arrays. -/
def gMean (c : Dev nD) (s : Fin 1024) (b : Fin 3) : EReal :=
  tMean (m ((c : Thread nD τ).loc main_arg0)) (m ((c : Thread nD τ).loc main_arg1)) (m ((c : Thread nD τ).loc main_arg2)) s b
/-- The reciprocal deviation of a token, from the argument arrays. -/
def gRstd (c : Dev nD) (s : Fin 1024) (b : Fin 3) : EReal :=
  tRstd (m ((c : Thread nD τ).loc main_arg0)) (m ((c : Thread nD τ).loc main_arg1)) (m ((c : Thread nD τ).loc main_arg2)) (m ((c : Thread nD τ).loc main_arg3)) s b
/-- The largest absolute value of a column block of a token, from the argument arrays. -/
def gA (c : Dev nD) (s : Fin 1024) (b : Fin 3) (j : Fin 64) : EReal :=
  tA (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) s b j
/-- A code before rounding, from the argument arrays. -/
def gC (c : Dev nD) (s : Fin 1024) (b : Fin 3) (k : Fin 8192) : EReal :=
  tC (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) s b k

/-- The array of means, row by row. -/
def G8 (c : Dev nD) : FVec Ideal S3x1x1024 .f32 := fun i => gMean m c (i 2) (i 0)
/-- The array of reciprocal deviations. -/
def G9 (c : Dev nD) : FVec Ideal S3x1x1024 .f32 := fun i => gRstd m c (i 2) (i 0)
/-- The array of scales. -/
def G7 (c : Dev nD) : FVec Ideal S3x64x1024 .f32 := fun i => scaleM (F := Ideal) (gA m c (i 2) (i 0) (i 1))
/-- The array of codes. -/
def G6 (c : Dev nD) : FVec Ideal S3072x8192 .fp8e4m3 := fun i =>
  gC m c ⟨(i 0).val % 1024, Nat.mod_lt _ (by decide)⟩ ⟨(i 0).val / 1024, by have : (i 0).val < 3072 := (i 0).2; omega⟩ (i 1)

theorem arr8 (c : Dev nD) : (dats m 0 c).arrAt 8 cfg0.N = G8 m c := by
  refine (dats m 0 c).arrAt_eq_of_covers 8 _ (by decide +kernel) fun t hf y => ?_
  blk_simp
  rw [after0_8]
  idx_vars y
  obtain rfl : y0 = 0 := Subsingleton.elim _ _
  obtain rfl : y1 = 0 := Subsingleton.elim _ _
  refine (out8_apply _ _ _ _ y2).trans ?_
  have hc : iblk m c 0 t (ix1 0 : S1.Idx) = tN (m ((c : Thread nD τ).loc main_arg1)) := cnt_blk m c t
  rw [hc, lane2_blk, rowX_blk]
  refine Eq.trans (b := G8 m c (ix3 (bOf t) 0 (sOf t y2) : S3x1x1024.Idx)) rfl (congrArg (G8 m c) ?_)
  blk_ext [idx t]

theorem arr9 (c : Dev nD) : (dats m 0 c).arrAt 9 cfg0.N = G9 m c := by
  refine (dats m 0 c).arrAt_eq_of_covers 9 _ (by decide +kernel) fun t hf y => ?_
  blk_simp
  rw [after0_9]
  idx_vars y
  obtain rfl : y0 = 0 := Subsingleton.elim _ _
  obtain rfl : y1 = 0 := Subsingleton.elim _ _
  refine (out9_apply _ _ _ _ y2).trans ?_
  have hc : iblk m c 0 t (ix1 0 : S1.Idx) = tN (m ((c : Thread nD τ).loc main_arg1)) := cnt_blk m c t
  rw [hc, lane2_blk, lane3_blk, rowX_blk]
  refine Eq.trans (b := G9 m c (ix3 (bOf t) 0 (sOf t y2) : S3x1x1024.Idx)) rfl (congrArg (G9 m c) ?_)
  blk_ext [idx t]

/-- A block's normalised row is the token's. -/
theorem blkY_blk (c : Dev nD) (t : Fin cfg0.N) (i : Fin 128) :
    blkY (iblk m c 0 t) (iblk m c 1 t) (iblk m c 2 t) (iblk m c 3 t) (iblk m c 4 t) (iblk m c 5 t) i
      = tY (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (sOf t i) (bOf t) := by
  funext k
  unfold blkY tY
  have hc : iblk m c 0 t (ix1 0 : S1.Idx) = tN (m ((c : Thread nD τ).loc main_arg1)) := cnt_blk m c t
  rw [hc, lane2_blk, lane3_blk, rowX_blk, rowG4_blk, rowG5_blk]

theorem arr7 (c : Dev nD) : (dats m 0 c).arrAt 7 cfg0.N = G7 m c := by
  refine (dats m 0 c).arrAt_eq_of_covers 7 _ (by decide +kernel) fun t hf y => ?_
  blk_simp
  rw [after0_7]
  idx_vars y
  obtain rfl : y0 = 0 := Subsingleton.elim _ _
  refine (out7_apply _ _ _ _ _ _ y1 y2).trans ?_
  rw [blkY_blk]
  refine Eq.trans (b := G7 m c (ix3 (bOf t) y1 (sOf t y2) : S3x64x1024.Idx)) rfl (congrArg (G7 m c) ?_)
  blk_ext [idx t]

/-- The row of the flattened array a point's row is. -/
theorem row_split (t : Fin cfg0.N) (i : Fin 128) : ((t.val * 128 + i.val) % 1024 = (sOf t i).val) ∧ (t.val * 128 + i.val) / 1024 = (bOf t).val := by
  have h := (idx t).2.2.2.2.2.2.2.2.2.2
  show _ = t.val % 8 * 128 + i.val ∧ _ = t.val / 8
  omega

theorem arr6 (c : Dev nD) : (dats m 0 c).arrAt 6 cfg0.N = G6 m c := by
  refine (dats m 0 c).arrAt_eq_of_covers 6 _ (by decide +kernel) fun t hf y => ?_
  blk_simp
  rw [after0_6]
  idx_vars y
  refine (out6_apply _ _ _ _ _ _ y0 y1).trans ?_
  unfold blkC
  rw [blkY_blk]
  have ht := (idx t).2.2.2.2.2.2.2.2.2.2
  refine Eq.trans (b := G6 m c (ix2 ⟨t.val * 128 + y0.val, by omega⟩ y1 : S3072x8192.Idx)) ?_ (congrArg (G6 m c) ?_)
  · have e1 : (⟨(t.val * 128 + y0.val) % 1024, Nat.mod_lt _ (by decide)⟩ : Fin 1024) = sOf t y0 := Fin.ext (row_split t y0).1
    have e2 : (⟨(t.val * 128 + y0.val) / 1024, by omega⟩ : Fin 3) = bOf t := Fin.ext (row_split t y0).2
    show _ = gC m c ⟨(t.val * 128 + y0.val) % 1024, _⟩ ⟨(t.val * 128 + y0.val) / 1024, _⟩ y1
    rw [e1, e2]
    rfl
  · blk_ext [idx t]

/-! ## The results -/

/-- The contents at the region's exit. -/
abbrev exitV (c : Dev nD) : Valuation τ sig (Elt Ideal) := Pipeline.withArrays (cfgs 0).spec c (V0 m c) fun w => (dats m 0 c).arrAt w cfg0.N

theorem exit6 (c : Dev nD) : exitV m c (Proc.devRef .tc main_v6_0) = G6 m c :=
  (Pipeline.withArrays_arr _ (by decide) c _ _ (6 : Fin 10)).trans (arr6 m c)
theorem exit7 (c : Dev nD) : exitV m c (Proc.devRef .tc main_v6_1) = G7 m c :=
  (Pipeline.withArrays_arr _ (by decide) c _ _ (7 : Fin 10)).trans (arr7 m c)
theorem exit8 (c : Dev nD) : exitV m c (Proc.devRef .tc main_v6_2) = G8 m c :=
  (Pipeline.withArrays_arr _ (by decide) c _ _ (8 : Fin 10)).trans (arr8 m c)
theorem exit9 (c : Dev nD) : exitV m c (Proc.devRef .tc main_v6_3) = G9 m c :=
  (Pipeline.withArrays_arr _ (by decide) c _ _ (9 : Fin 10)).trans (arr9 m c)

/-- The result of means is the array of means, its first and last axes exchanged. -/
theorem tail_mean (σ : Valuation τ sig (Elt Ideal)) (G : FVec Ideal S3x1x1024 .f32) (h : σ (Proc.devRef .tc main_v6_2) = G) (s : Fin 1024) (b : Fin 3) :
    (show EReal from StableHlo.after (List.flatten [hostOps1]) σ (Proc.devRef .tc main_v11) (ix2 s b : S1024x3.Idx)) = G (ix3 b 0 s) := by
  after_reads_at
  rw [h]

theorem tail_rstd (σ : Valuation τ sig (Elt Ideal)) (G : FVec Ideal S3x1x1024 .f32) (h : σ (Proc.devRef .tc main_v6_3) = G) (s : Fin 1024) (b : Fin 3) :
    (show EReal from StableHlo.after (List.flatten [hostOps1]) σ (Proc.devRef .tc main_v13) (ix2 s b : S1024x3.Idx)) = G (ix3 b 0 s) := by
  after_reads_at
  rw [h]

theorem tail_scale (σ : Valuation τ sig (Elt Ideal)) (G : FVec Ideal S3x64x1024 .f32) (h : σ (Proc.devRef .tc main_v6_1) = G) (s : Fin 1024) (b : Fin 3) (j : Fin 64) :
    (show EReal from StableHlo.after (List.flatten [hostOps1]) σ (Proc.devRef .tc main_v9) (ix3 s b j : S1024x3x64.Idx)) = G (ix3 b j s) := by
  after_reads_at
  rw [h]

theorem tail_code (σ : Valuation τ sig (Elt Ideal)) (G : FVec Ideal S3072x8192 .fp8e4m3) (h : σ (Proc.devRef .tc main_v6_0) = G) (s : Fin 1024) (b : Fin 3) (k : Fin 8192) :
    (show EReal from StableHlo.after (List.flatten [hostOps1]) σ (Proc.devRef .tc main_v8) (ix3 s b k : S1024x3x8192.Idx))
      = G (ix2 ⟨b.val * 1024 + s.val, by omega⟩ k) := by
  after_reads_at
  rw [h]

theorem res_mean (c : Dev nD) (s : Fin 1024) (b : Fin 3) :
    (show EReal from Pipeline.afterTail₀ cfgs (dats m) 0 (V0 m) [hostOps1] c main_v11 (ix2 s b : S1024x3.Idx)) = gMean m c s b :=
  tail_mean _ _ (exit8 m c) s b

theorem res_rstd (c : Dev nD) (s : Fin 1024) (b : Fin 3) :
    (show EReal from Pipeline.afterTail₀ cfgs (dats m) 0 (V0 m) [hostOps1] c main_v13 (ix2 s b : S1024x3.Idx)) = gRstd m c s b :=
  tail_rstd _ _ (exit9 m c) s b

theorem res_scale (c : Dev nD) (s : Fin 1024) (b : Fin 3) (j : Fin 64) :
    (show EReal from Pipeline.afterTail₀ cfgs (dats m) 0 (V0 m) [hostOps1] c main_v9 (ix3 s b j : S1024x3x64.Idx)) = scaleM (F := Ideal) (gA m c s b j) :=
  tail_scale _ _ (exit7 m c) s b j

theorem res_code (c : Dev nD) (s : Fin 1024) (b : Fin 3) (k : Fin 8192) :
    (show EReal from Pipeline.afterTail₀ cfgs (dats m) 0 (V0 m) [hostOps1] c main_v8 (ix3 s b k : S1024x3x8192.Idx)) = gC m c s b k := by
  refine (tail_code _ _ (exit6 m c) s b k).trans ?_
  have e1 : (⟨(b.val * 1024 + s.val) % 1024, Nat.mod_lt _ (by decide)⟩ : Fin 1024) = s := Fin.ext (by show (b.val * 1024 + s.val) % 1024 = s.val; omega)
  have e2 : (⟨(b.val * 1024 + s.val) / 1024, by omega⟩ : Fin 3) = b := Fin.ext (by show (b.val * 1024 + s.val) / 1024 = b.val; omega)
  show gC m c ⟨(b.val * 1024 + s.val) % 1024, _⟩ ⟨(b.val * 1024 + s.val) / 1024, _⟩ k = _
  rw [e1, e2]

end Cert.Proof.Ker
end
-- ==== Proof.Search.lean ====
module

public import proofs.«01_k».proof.Proof.Tile

/-!
The exponent search over the extended reals: for a value that is zero or lies in the range of the normal floats
below `2 ^ 126`, the word found is the floor of the base-two logarithm, so the two powers of two built from it are
those the reference takes.
-/

@[expose] public section

set_option maxRecDepth 16384

noncomputable section

namespace Cert.Proof.Ker
open Cert.KernelIdeal Cert.KernelIdeal.Gen
open Idealize.ShloMosaic

/-- The word with exponent field `k`. -/
def wd (k : ℕ) : BitVec 32 := BitVec.ofNat 32 (k * 8388608)

/-- The float of the word with exponent field `k`. -/
def pw (k : ℕ) : EReal := (FloatOps.ofBits .f32 (wd k) : Ideal .f32)

/-- The fields of such a word. -/
theorem wd_fields : ∀ k : Fin 256, ((wd k.val).extractLsb' 23 8).toNat = k.val ∧ ((wd k.val).extractLsb' 0 23).toNat = 0
    ∧ ((wd k.val).extractLsb' 31 1 == 1#1) = false := by decide +kernel

/-- Setting a lower bit of the exponent field adds it. -/
theorem wd_or : ∀ (j : Fin 8) (k : Fin 256), k.val % (2 * 2 ^ j.val) = 0 → wd k.val ||| wd (2 ^ j.val) = wd (k.val + 2 ^ j.val) := by
  decide +kernel

/-- A normal exponent's float is its power of two. -/
theorem pw_normal (k : ℕ) (h1 : 1 ≤ k) (h2 : k ≤ 254) : pw k = (((2 : ℝ) ^ ((k : ℤ) - 127) : ℝ) : EReal) := by
  obtain ⟨he, hf, hn⟩ := wd_fields ⟨k, by omega⟩
  change Ideal.ieee 8 23 (wd k) = _
  unfold Ideal.ieee
  simp only at he hf hn ⊢
  rw [he, hf, hn]
  rw [if_neg (by omega), if_neg (by omega)]
  congr 1
  have h : ((k : ℤ) - 127) = 23 + ((k : ℤ) - (2 ^ (8 - 1) - 1) - (23 : ℕ)) := by norm_num
  rw [h, zpow_add₀ (by norm_num)]
  norm_num

/-- The zero exponent's float is zero. -/
theorem pw_zero : pw 0 = 0 := by
  obtain ⟨he, hf, hn⟩ := wd_fields ⟨0, by omega⟩
  change Ideal.ieee 8 23 (wd 0) = _
  unfold Ideal.ieee
  simp only at he hf hn ⊢
  rw [he, hf, hn]
  norm_num

/-- The last exponent's float is the infinity. -/
theorem pw_top : pw 255 = ⊤ := by
  obtain ⟨he, hf, hn⟩ := wd_fields ⟨255, by omega⟩
  change Ideal.ieee 8 23 (wd 255) = _
  unfold Ideal.ieee
  simp only at he hf hn ⊢
  rw [he, hf, hn]
  norm_num

/-- What holds of the exponent found so far when the bits below `2 w` are still to be tried. -/
def Found (v : EReal) (t : BitVec 32) (w : ℕ) : Prop :=
  ∃ k, t = wd k ∧ k % w = 0 ∧ k + w ≤ 256 ∧ pw k ≤ v ∧ (k + w = 256 ∨ v < pw (k + w))

/-- One step tries one bit. -/
theorem found_step (v : EReal) (t : BitVec 32) (j : Fin 8) (h : Found v t (2 * 2 ^ j.val)) :
    Found v (stepS (F := Ideal) v t (wd (2 ^ j.val))) (2 ^ j.val) := by
  obtain ⟨k, rfl, hm, hle, hp, hv⟩ := h
  have hj : 0 < 2 ^ j.val := Nat.pos_of_ne_zero (by positivity)
  have hor := wd_or j ⟨k, by omega⟩ hm
  simp only at hor
  have hk : k % 2 ^ j.val = 0 := by
    have : 2 ^ j.val ∣ 2 * 2 ^ j.val := ⟨2, by ring⟩
    exact Nat.mod_eq_zero_of_dvd (this.trans (Nat.dvd_of_mod_eq_zero hm))
  unfold stepS
  rw [hor]
  have hc : (FloatOps.cmpf (F := Ideal) .olt v (FloatOps.ofBits .f32 (wd (k + 2 ^ j.val))) = 1) ↔ v < pw (k + 2 ^ j.val) := by
    change Ideal.cmp .olt v (pw (k + 2 ^ j.val)) = 1 ↔ _
    simp only [Ideal.cmp]
    by_cases h : v < pw (k + 2 ^ j.val) <;> simp [h]
  by_cases h : v < pw (k + 2 ^ j.val)
  · rw [if_pos (hc.mpr h)]
    exact ⟨k, rfl, hk, by omega, hp, .inr h⟩
  · rw [if_neg (fun h' => h (hc.mp h'))]
    refine ⟨k + 2 ^ j.val, rfl, by rw [Nat.add_mod_right, hk], by omega, not_lt.mp h, ?_⟩
    rw [show k + 2 ^ j.val + 2 ^ j.val = k + 2 * 2 ^ j.val by ring]
    exact hv

/-- The search finds the exponent field of the greatest such float at or below the value. -/
theorem expS_found (v : EReal) (hv : 0 ≤ v) : ∃ k, expS (F := Ideal) v = wd k ∧ k ≤ 255 ∧ pw k ≤ v ∧ (k = 255 ∨ v < pw (k + 1)) := by
  have h0 : Found v 0#32 (2 * 2 ^ 7) := ⟨0, rfl, rfl, le_refl _, by rw [pw_zero]; exact hv, .inl rfl⟩
  have h := found_step v _ 0 (found_step v _ 1 (found_step v _ 2 (found_step v _ 3 (found_step v _ 4 (found_step v _ 5
    (found_step v _ 6 (found_step v _ 7 h0)))))))
  obtain ⟨k, ht, -, hle, hp, hv'⟩ := h
  refine ⟨k, ht, ?_, hp, ?_⟩
  · change k + 1 ≤ 256 at hle; omega
  · rcases hv' with h | h
    · left; change k + 1 = 256 at h; omega
    · right; exact h

/-- The float `1 / 448` the block maxima are multiplied by. -/
def cQ : Ideal .f32 := FloatOps.ofBits .f32 0x3B124925#32

/-- The reference's exponent of a block maximum. -/
def eR (a : EReal) : EReal :=
  if a = 0 then 0 else Ideal.liftRound Int.floor (Ideal.div (Ideal.log (a * cQ)) (Ideal.log (2 : ℝ))) + 1

/-- What is asked of a block maximum. -/
def Normal (a : EReal) : Prop :=
  a = 0 ∨ ((((2 : ℝ) ^ (-126 : ℤ) : ℝ) : EReal) ≤ a * cQ ∧ a * cQ < (((2 : ℝ) ^ (126 : ℤ) : ℝ) : EReal))

/-- The inverse scale of one block maximum. -/
def invM (a : Ideal .f32) : Ideal .f32 := invS (F := Ideal) (FloatOps.mulf a cQ)

/-- The float of the word of one. -/
theorem one_word : (FloatOps.ofBits .f32 1065353216#32 : Ideal .f32) = (1 : EReal) := by
  have h := pw_normal 127 (by norm_num) (by norm_num)
  rw [show (FloatOps.ofBits .f32 1065353216#32 : Ideal .f32) = pw 127 from rfl, h]
  norm_num

/-- Two to the zero is one. -/
theorem pow_two_zero : Ideal.pow ((2 : ℝ) : EReal) ((0 : ℝ) : EReal) = 1 := by
  change (((2 : ℝ) ^ (0 : ℝ) : ℝ) : EReal) = 1
  rw [Real.rpow_zero]; rfl

/-- Word sums and differences used on the found exponent. -/
theorem wd_add : ∀ k : Fin 256, k.val ≠ 0 → k.val ≤ 252 → wd k.val + 8388608#32 = wd (k.val + 1) ∧ 2122317824#32 - wd k.val = wd (253 - k.val) ∧ wd k.val ≠ 0#32 := by
  decide +kernel

/-- The two powers of two are those of the reference's exponent. -/
theorem search_eq (a : EReal) (h : Normal a) :
    scaleM (F := Ideal) a = Ideal.pow (2 : ℝ) (eR a) ∧ invM a = Ideal.pow (2 : ℝ) (-eR a) := by
  have hs : scaleM (F := Ideal) a = scaleS (F := Ideal) (a * cQ) := rfl
  have hi : invM a = invS (F := Ideal) (a * cQ) := rfl
  rw [hs, hi]
  rcases h with rfl | ⟨h1, h2⟩
  · obtain ⟨k, hk, hle, hp, hv⟩ := expS_found 0 (le_refl _)
    have hk0 : k = 0 := by
      by_contra hne
      rcases Nat.lt_or_ge k 255 with hlt | hge
      · rw [pw_normal k (by omega) (by omega)] at hp
        have : (0 : ℝ) < 2 ^ ((k : ℤ) - 127) := by positivity
        exact absurd hp (not_le.mpr (by exact_mod_cast this))
      · have : k = 255 := by omega
        subst this
        rw [pw_top] at hp
        simp at hp
    subst hk0
    rw [zero_mul]
    have he : expS (F := Ideal) (0 : EReal) = 0#32 := hk.trans rfl
    have hE : eR 0 = ((0 : ℝ) : EReal) := by simp [eR]
    constructor
    · unfold scaleS
      rw [he, if_pos rfl, one_word, hE]
      exact pow_two_zero.symm
    · unfold invS
      rw [he, if_pos rfl, one_word, hE, ← EReal.coe_neg, neg_zero]
      exact pow_two_zero.symm
  · have hbot : a * cQ ≠ ⊥ := fun hb => by rw [hb] at h1; simp at h1
    have htop : a * cQ ≠ ⊤ := fun hb => by rw [hb] at h2; simp at h2
    obtain ⟨r, hr⟩ : ∃ r : ℝ, a * cQ = (r : EReal) := ⟨(a * cQ).toReal, (EReal.coe_toReal htop hbot).symm⟩
    have ha : a ≠ 0 := fun h0 => by
      rw [h0, zero_mul] at h1
      have : (0 : ℝ) < 2 ^ (-126 : ℤ) := by positivity
      exact absurd h1 (not_le.mpr (by exact_mod_cast this))
    unfold eR
    rw [if_neg ha]
    rw [hr] at h1 h2 ⊢
    have h1' : (2 : ℝ) ^ (-126 : ℤ) ≤ r := by exact_mod_cast h1
    have h2' : r < (2 : ℝ) ^ (126 : ℤ) := by exact_mod_cast h2
    have hr0 : 0 < r := lt_of_lt_of_le (by positivity) h1'
    obtain ⟨k, hk, hle, hp, hv⟩ := expS_found (r : EReal) (by exact_mod_cast hr0.le)
    have hk1 : 1 ≤ k := by
      by_contra hne
      have hk0 : k = 0 := by omega
      subst hk0
      rcases hv with hv | hv
      · omega
      · rw [pw_normal (0 + 1) (by norm_num) (by norm_num)] at hv
        have hv' : r < (2 : ℝ) ^ (((0 + 1 : ℕ) : ℤ) - 127) := by exact_mod_cast hv
        norm_num at hv' h1'
        linarith
    have hk2 : k ≤ 252 := by
      by_contra hne
      rcases Nat.lt_or_ge k 255 with hlt | hge
      · rw [pw_normal k (by omega) (by omega)] at hp
        have hp' : (2 : ℝ) ^ ((k : ℤ) - 127) ≤ r := by exact_mod_cast hp
        have : (2 : ℝ) ^ (126 : ℤ) ≤ 2 ^ ((k : ℤ) - 127) := zpow_le_zpow_right₀ (by norm_num) (by omega)
        linarith
      · have : k = 255 := by omega
        subst this
        rw [pw_top] at hp
        simp at hp
    rw [pw_normal k hk1 (by omega)] at hp
    have hlo : (2 : ℝ) ^ ((k : ℤ) - 127) ≤ r := by exact_mod_cast hp
    have hhi : r < (2 : ℝ) ^ ((k : ℤ) - 126) := by
      rcases hv with hv | hv
      · omega
      · rw [pw_normal (k + 1) (by omega) (by omega)] at hv
        have hv' : r < (2 : ℝ) ^ (((k + 1 : ℕ) : ℤ) - 127) := by exact_mod_cast hv
        rwa [show (((k + 1 : ℕ) : ℤ) - 127) = (k : ℤ) - 126 by push_cast; ring] at hv'
    have hl2 : 0 < Real.log 2 := Real.log_pos (by norm_num)
    have hfl : ⌊Real.log r / Real.log 2⌋ = (k : ℤ) - 127 := by
      rw [Int.floor_eq_iff]
      constructor
      · rw [le_div_iff₀ hl2, ← Real.log_zpow]
        exact Real.log_le_log (by positivity) hlo
      · rw [div_lt_iff₀ hl2, show (((k : ℤ) - 127 : ℤ) : ℝ) + 1 = (((k : ℤ) - 126 : ℤ) : ℝ) by push_cast; ring, ← Real.log_zpow]
        exact Real.log_lt_log hr0 hhi
    have hE : Ideal.liftRound Int.floor (Ideal.div (Ideal.log (r : EReal)) (Ideal.log (2 : ℝ))) + 1 = ((((k : ℤ) - 126 : ℤ) : ℝ) : EReal) := by
      have hlr : Ideal.log (r : EReal) = ((Real.log r : ℝ) : EReal) := by
        change (if r ≤ 0 then ⊥ else ((Real.log r : ℝ) : EReal)) = _
        rw [if_neg (not_le.mpr hr0)]
      have hl : Ideal.log ((2 : ℝ) : EReal) = ((Real.log 2 : ℝ) : EReal) := by
        change (if (2 : ℝ) ≤ 0 then ⊥ else ((Real.log 2 : ℝ) : EReal)) = _
        rw [if_neg (by norm_num)]
      rw [hlr, hl, Ideal.div_coe hl2.ne', ← EReal.coe_mul, mul_one_div]
      change (((⌊Real.log r / Real.log 2⌋ : ℤ) : ℝ) : EReal) + 1 = _
      rw [hfl, ← EReal.coe_one, ← EReal.coe_add]
      congr 1
      push_cast; ring
    rw [hE]
    obtain ⟨hw1, hw2, hw0⟩ := wd_add ⟨k, by omega⟩ (by simp only; omega) hk2
    simp only at hw1 hw2 hw0
    constructor
    · unfold scaleS
      rw [hk, if_neg hw0, hw1]
      change pw (k + 1) = (((2 : ℝ).rpow (((k : ℤ) - 126 : ℤ) : ℝ) : ℝ) : EReal)
      rw [pw_normal (k + 1) (by omega) (by omega)]
      congr 1
      change _ = (2 : ℝ) ^ ((((k : ℤ) - 126 : ℤ)) : ℝ)
      rw [Real.rpow_intCast]
      congr 1
      push_cast; ring
    · unfold invS
      rw [hk, if_neg hw0, hw2, ← EReal.coe_neg, ← Int.cast_neg]
      change pw (253 - k) = (((2 : ℝ).rpow ((-((k : ℤ) - 126) : ℤ) : ℝ) : ℝ) : EReal)
      rw [pw_normal (253 - k) (by omega) (by omega)]
      congr 1
      change _ = (2 : ℝ) ^ (((-((k : ℤ) - 126) : ℤ)) : ℝ)
      rw [Real.rpow_intCast]
      congr 1
      omega

end Cert.Proof.Ker
end
-- ==== Proof.Ref.lean ====
module

public import proofs.«01_k».proof.Proof.Gen.ReferenceIdeal.Frame
public import proofs.«01_k».proof.Proof.Val
public import proofs.«01_k».proof.Proof.Search
public import Idealize.ShloMosaic.Lib.Pipeline.ValueKit
public import Idealize.ShloMosaic.Lib.StableHlo.ReadAt

/-! The reference's results, over the extended reals, at an index. -/

@[expose] public section

set_option maxRecDepth 16384

noncomputable section

namespace Cert.Proof.Ref
open Cert.ReferenceIdeal Cert.ReferenceIdeal.Gen
open Idealize.ShloMosaic Idealize.ShloMosaic.TcCoe Idealize.SL.Sem
open Cert.Proof.Ker (tX tP tG tN tMean tRstd tY tA fA fLoc fSq fMean fRstd fY blkOf fClip eR Normal cQ)

section
variable (X : FVec Ideal S1024x3x8192 .bf16) (N : FVec Ideal S1 .f32) (P P2 : FVec Ideal S1x1024x3 .f32) (G B : FVec Ideal S8192 .f32)

/-- A constant at every token. -/
def cT (w : BitVec 32) : FVec Ideal S1024x3 .f32 := broadcastInDim S1024x3 ![] bcast_S_S1024x3 (constant S_ .f32 w)
/-- A scalar at every token. -/
def sT (v : FVec Ideal S_ .f32) : FVec Ideal S1024x3 .f32 := broadcastInDim S1024x3 ![] bcast_S_S1024x3 v
/-- A token's value at every column. -/
def rT (v : FVec Ideal S1024x3 .f32) : FVec Ideal S1024x3x8192 .f32 :=
  broadcastInDim S1024x3x8192 ![0, 1, 2] bcast_S1024x3x1_S1024x3x8192_0_1_2 (broadcastInDim S1024x3x1 ![0, 1] bcast_S1024x3_S1024x3x1_0_1 v)
/-- A row's value at every token. -/
def gT (v : FVec Ideal S8192 .f32) : FVec Ideal S1024x3x8192 .f32 :=
  broadcastInDim S1024x3x8192 ![0, 1, 2] bcast_S1x1x8192_S1024x3x8192_0_1_2 (broadcastInDim S1x1x8192 ![2] bcast_S8192_S1x1x8192_2 v)
/-- The row sums. -/
def sumT (v : FVec Ideal S1024x3x8192 .f32) : FVec Ideal S1024x3 .f32 :=
  Host.reduceAdd v (constant S_ .f32 0x00000000#32) reducesTo_S1024x3x8192_S1024x3_d2 h_S_
/-- The activations at full width. -/
def rX : FVec Ideal S1024x3x8192 .f32 := extf .f32 X bitsLt_bf16_f32
/-- The rows' own means. -/
def rLoc : FVec Ideal S1024x3 .f32 := Host.divf (sumT (rX X)) (cT 0x46000000#32)
/-- The rows' own sums of squared deviations. -/
def rSq : FVec Ideal S1024x3 .f32 := sumT (mulf (subf (rX X) (rT (rLoc X))) (subf (rX X) (rT (rLoc X))))
/-- The peer's count. -/
def rN : FVec Ideal S_ .f32 := shapeCast S_ N shapeCasts_S1_S_
/-- The merged count. -/
def rNn : FVec Ideal S_ .f32 := addf (rN N) (constant S_ .f32 0x46000000#32)
/-- A peer statistic by token. -/
def rP : FVec Ideal S1024x3 .f32 := shapeCast S1024x3 P shapeCasts_S1x1024x3_S1024x3
/-- The mean differences. -/
def rD : FVec Ideal S1024x3 .f32 := subf (rLoc X) (rP P)
/-- The merged means. -/
def rMean : FVec Ideal S1024x3 .f32 := addf (rP P) (mulf (rD X P) (sT (Host.divf (constant S_ .f32 0x46000000#32) (rNn N))))
/-- The merged reciprocal deviations. -/
def rRstd : FVec Ideal S1024x3 .f32 :=
  Host.rsqrt (addf (Host.divf (addf (addf (rP P2) (rSq X))
    (mulf (mulf (rD X P) (rD X P)) (sT (Host.divf (mulf (rN N) (constant S_ .f32 0x46000000#32)) (rNn N))))) (sT (rNn N))) (cT 0x3727C5AC#32))
/-- The normalised rows. -/
def rY : FVec Ideal S1024x3x8192 .f32 :=
  addf (mulf (mulf (subf (rX X) (rT (rMean X N P))) (rT (rRstd X N P P2))) (gT G)) (gT B)
/-- The normalised rows in column blocks. -/
def rYb : FVec Ideal S1024x3x64x128 .f32 := shapeCast S1024x3x64x128 (rY X N P P2 G B) shapeCasts_S1024x3x8192_S1024x3x64x128
/-- The block maxima. -/
def rA : FVec Ideal S1024x3x64 .f32 :=
  Host.reduce FloatOps.maximumf (Host.absf (rYb X N P P2 G B)) (constant S_ .f32 0xFF800000#32) reducesTo_S1024x3x64x128_S1024x3x64_d3 h_S_
end

/-- A constant at every block. -/
def cB (w : BitVec 32) : FVec Ideal S1024x3x64 .f32 := broadcastInDim S1024x3x64 ![] bcast_S_S1024x3x64 (constant S_ .f32 w)

/-- The exponents of the block maxima. -/
def rE (a : FVec Ideal S1024x3x64 .f32) : FVec Ideal S1024x3x64 .f32 :=
  select (cmpf .oeq a (cB 0x00000000#32)) (cB 0x00000000#32)
    (addf (Host.floor (Host.divf (Host.log (mulf a (cB 0x3B124925#32)))
      (broadcastInDim S1024x3x64 ![] bcast_S_S1024x3x64 (Host.log (constant S_ .f32 0x40000000#32))))) (cB 0x3F800000#32))
/-- The scales. -/
def rScale (a : FVec Ideal S1024x3x64 .f32) : FVec Ideal S1024x3x64 .f32 := Host.powf (cB 0x40000000#32) (rE a)
/-- The inverse scales. -/
def rInv (a : FVec Ideal S1024x3x64 .f32) : FVec Ideal S1024x3x64 .f32 := Host.powf (cB 0x40000000#32) (Host.negf (rE a))
/-- A constant at every element of every block. -/
def cF (w : BitVec 32) : FVec Ideal S1024x3x64x128 .f32 := broadcastInDim S1024x3x64x128 ![] bcast_S_S1024x3x64x128 (constant S_ .f32 w)
/-- The codes before rounding. -/
def rQ (yb : FVec Ideal S1024x3x64x128 .f32) (inv : FVec Ideal S1024x3x64 .f32) : FVec Ideal S1024x3x8192 .f32 :=
  shapeCast S1024x3x8192 (minimumf (cF 0x43E00000#32) (maximumf (cF 0xC3E00000#32)
    (mulf yb (broadcastInDim S1024x3x64x128 ![0, 1, 2, 3] bcast_S1024x3x64x1_S1024x3x64x128_0_1_2_3
      (broadcastInDim S1024x3x64x1 ![0, 1, 2] bcast_S1024x3x64_S1024x3x64x1_0_1_2 inv))))) shapeCasts_S1024x3x64x128_S1024x3x8192

/-! ## The terms at an index -/

section
variable (X : FVec Ideal S1024x3x8192 .bf16) (N : FVec Ideal S1 .f32) (P P2 : FVec Ideal S1x1024x3 .f32) (G B : FVec Ideal S8192 .f32)

theorem rLoc_apply (s : Fin 1024) (b : Fin 3) : rLoc X (ix2 s b) = fLoc (tX X s b) := by
  pointwise [rLoc, sumT, rX, cT]
  try rw [zero_add]
  rfl

theorem rSq_apply (s : Fin 1024) (b : Fin 3) : rSq X (ix2 s b) = fSq (tX X s b) := by
  pointwise [rSq, sumT, rX, rT, rLoc_apply]
  try rw [zero_add]
  rfl

theorem rMean_apply (s : Fin 1024) (b : Fin 3) : rMean X N P (ix2 s b) = tMean X N P s b := by
  pointwise [rMean, rP, rD, sT, rNn, rN, rLoc_apply]
  rfl

theorem rRstd_apply (s : Fin 1024) (b : Fin 3) : rRstd X N P P2 (ix2 s b) = tRstd X N P P2 s b := by
  pointwise [rRstd, rP, rD, sT, cT, rNn, rN, rLoc_apply, rSq_apply]
  rfl

theorem rY_apply (s : Fin 1024) (b : Fin 3) (k : Fin 8192) : rY X N P P2 G B (ix3 s b k) = tY X N P P2 G B s b k := by
  pointwise [rY, rX, rT, gT, rMean_apply, rRstd_apply]
  rfl

theorem rYb_apply (s : Fin 1024) (b : Fin 3) (j : Fin 64) (l : Fin 128) :
    rYb X N P P2 G B (ix4 s b j l) = blkOf (tY X N P P2 G B s b) j l := by
  pointwise [rYb, rY_apply, blkOf]
  exact congrArg (tY X N P P2 G B s b) (Fin.ext (by show j.val * 128 + l.val = 128 * j.val + l.val; omega))

theorem rA_apply (s : Fin 1024) (b : Fin 3) (j : Fin 64) : rA X N P P2 G B (ix3 s b j) = tA X N P P2 G B s b j := by
  pointwise [rA, rYb_apply]
  rfl
end

theorem two_word : Ideal.ofBits .f32 0x40000000#32 = ((2 : ℝ) : EReal) := by
  have h := Cert.Proof.Ker.pw_normal 128 (by norm_num) (by norm_num)
  refine Eq.trans ?_ (h.trans ?_)
  · rfl
  · norm_num

theorem rE_apply (a : FVec Ideal S1024x3x64 .f32) (s : Fin 1024) (b : Fin 3) (j : Fin 64) : rE a (ix3 s b j) = eR (a (ix3 s b j)) := by
  pointwise [rE, cB, two_word]
  rfl

theorem rScale_apply (a : FVec Ideal S1024x3x64 .f32) (s : Fin 1024) (b : Fin 3) (j : Fin 64) :
    rScale a (ix3 s b j) = Ideal.pow (2 : ℝ) (eR (a (ix3 s b j))) := by
  pointwise [rScale, cB, two_word, rE_apply]

theorem rInv_apply (a : FVec Ideal S1024x3x64 .f32) (s : Fin 1024) (b : Fin 3) (j : Fin 64) :
    rInv a (ix3 s b j) = Ideal.pow (2 : ℝ) (-eR (a (ix3 s b j))) := by
  pointwise [rInv, cB, two_word, rE_apply]

theorem rQ_apply (yb : FVec Ideal S1024x3x64x128 .f32) (inv : FVec Ideal S1024x3x64 .f32) (s : Fin 1024) (b : Fin 3) (j : Fin 64) (l : Fin 128) :
    rQ yb inv (ix3 s b ⟨128 * j.val + l.val, by omega⟩) = fClip (yb (ix4 s b j l) * inv (ix3 s b j)) := by
  pointwise [rQ, cF]
  rfl

/-! ## The results as those terms -/

variable (m : (ℓ : Loc nD τ sig) → Buf (Elt Ideal) ℓ)

/-- The reference's block maxima over its argument arrays. -/
abbrev aM (c : Dev nD) : FVec Ideal S1024x3x64 .f32 :=
  rA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
/-- The reference's normalised blocks over its argument arrays. -/
abbrev yM (c : Dev nD) : FVec Ideal S1024x3x64x128 .f32 :=
  rYb (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem V_v17 (c : Dev nD) : V m c main_v17
    = rMean (m ((c : Thread nD τ).loc main_arg0)) (m ((c : Thread nD τ).loc main_arg1)) (m ((c : Thread nD τ).loc main_arg2)) := by
  entry_read
  rfl

theorem V_v29 (c : Dev nD) : V m c main_v29
    = rRstd (m ((c : Thread nD τ).loc main_arg0)) (m ((c : Thread nD τ).loc main_arg1)) (m ((c : Thread nD τ).loc main_arg2)) (m ((c : Thread nD τ).loc main_arg3)) := by
  entry_read
  rfl

end Cert.Proof.Ref
end
-- ==== Proof.Pre.lean ====
module

public import proofs.«01_k».proof.Pre_normal_scales
public import proofs.«01_k».proof.Proof.Ref

/-! What the stated precondition says of the block maxima. -/

@[expose] public section

set_option maxRecDepth 16384

noncomputable section

namespace Cert.Proof.Ref
open Cert.ReferenceIdeal Cert.ReferenceIdeal.Gen
open Idealize.ShloMosaic Idealize.ShloMosaic.TcCoe Idealize.SL.Sem
open Cert.Proof.Ker (tA Normal cQ)

/-- The side conditions of the precondition's operations. -/
theorem preFacts : Cert.Pre_normal_scales.Facts where
  bitsLt_bf16_f32 := by decide
  reducesTo_S1024x3x8192_S1024x3_d2 := by decide
  h_S_ := by decide
  bcast_S_S1024x3 := by decide
  bcast_S1024x3_S1024x3x1_0_1 := by decide
  bcast_S1024x3x1_S1024x3x8192_0_1_2 := by decide
  shapeCasts_S1_S_ := by decide
  shapeCasts_S1x1024x3_S1024x3 := by decide
  bcast_S8192_S1x1x8192_2 := by decide
  bcast_S1x1x8192_S1024x3x8192_0_1_2 := by decide
  shapeCasts_S1024x3x8192_S1024x3x64x128 := by decide
  reducesTo_S1024x3x64x128_S1024x3x64_d3 := by decide
  bcast_S_S1024x3x64 := by decide

/-- The least normal float. -/
theorem low_word : Ideal.ofBits .f32 0x00800000#32 = (((2 : ℝ) ^ (-126 : ℤ) : ℝ) : EReal) := by
  have h := Cert.Proof.Ker.pw_normal 1 (by norm_num) (by norm_num)
  refine Eq.trans ?_ (h.trans ?_)
  · rfl
  · norm_num

/-- The float the scaled maxima stay below. -/
theorem high_word : Ideal.ofBits .f32 0x7E800000#32 = (((2 : ℝ) ^ (126 : ℤ) : ℝ) : EReal) := by
  have h := Cert.Proof.Ker.pw_normal 253 (by norm_num) (by norm_num)
  refine Eq.trans ?_ (h.trans ?_)
  · rfl
  · norm_num

variable (X : FVec Ideal S1024x3x8192 .bf16) (N : FVec Ideal S1 .f32) (P P2 : FVec Ideal S1x1024x3 .f32) (G B : FVec Ideal S8192 .f32)

/-- The truth value the precondition states, from a block maximum. -/
theorem bit_or (p q r : Prop) [Decidable p] [Decidable q] [Decidable r]
    (h : BitVec.ofBool (decide p) ||| (BitVec.ofBool (decide q) &&& BitVec.ofBool (decide r)) = 1#1) : p ∨ (q ∧ r) := by
  by_cases hp : p
  · exact Or.inl hp
  · by_cases hq : q
    · by_cases hr : r
      · exact Or.inr ⟨hq, hr⟩
      · simp [hp, hq, hr] at h
    · simp [hp, hq] at h

/-- A constant at every block, at an index. -/
theorem cB_apply (w : BitVec 32) (s : Fin 1024) (b : Fin 3) (j : Fin 64) : cB w (ix3 s b j) = Ideal.ofBits .f32 w := by
  pointwise [cB]

/-- The precondition's truth value at a block, from the maximum and the three constants. -/
theorem bit_read (a p q r k : FVec Ideal S1024x3x64 .f32) (i : S1024x3x64.Idx)
    (h : ori (cmpf .oeq a p) (andi (cmpf .oge (mulf a k) q) (cmpf .olt (mulf a k) r)) i = 1#1) :
    (show EReal from a i) = p i ∨ ((show EReal from q i) ≤ (show EReal from a i) * k i ∧ (show EReal from a i) * k i < (show EReal from r i)) :=
  bit_or _ _ _ h

/-- The precondition's value from the block maxima. -/
theorem fn_eq [hF : Cert.Pre_normal_scales.Facts] : Cert.Pre_normal_scales.fn (F := Ideal) X N P P2 G B
      = ori (cmpf .oeq (rA X N P P2 G B) (cB 0x00000000#32))
          (andi (cmpf .oge (mulf (rA X N P P2 G B) (cB 0x3B124925#32)) (cB 0x00800000#32))
            (cmpf .olt (mulf (rA X N P P2 G B) (cB 0x3B124925#32)) (cB 0x7E800000#32))) := rfl

/-- Under the precondition every block maximum is zero or has a normal scale. -/
theorem normal_of_pre [hF : Cert.Pre_normal_scales.Facts] (h : Cert.Pre_normal_scales.fn (F := Ideal) X N P P2 G B = fun _ => 1#1)
    (s : Fin 1024) (b : Fin 3) (j : Fin 64) : Normal (tA X N P P2 G B s b j) := by
  rw [fn_eq] at h
  have h2 := bit_read _ _ _ _ _ (ix3 s b j) (congrFun h (ix3 s b j))
  rw [rA_apply, cB_apply, cB_apply, cB_apply, cB_apply, low_word, high_word,
    show Ideal.ofBits .f32 0x00000000#32 = 0 from Cert.Proof.Ker.pw_zero] at h2
  exact h2

end Cert.Proof.Ref
end
-- ==== Proof.Ref2.lean ====
module

public import proofs.«01_k».proof.Proof.Ref

/-! The reference's scales and codes, over the extended reals. -/

@[expose] public section

set_option maxRecDepth 16384

noncomputable section

namespace Cert.Proof.Ref
open Cert.ReferenceIdeal Cert.ReferenceIdeal.Gen
open Idealize.ShloMosaic Idealize.ShloMosaic.TcCoe Idealize.SL.Sem
open Idealize.ShloMosaic.StableHlo (upto)

variable (m : (ℓ : Loc nD τ sig) → Buf (Elt Ideal) ℓ)

theorem up_v17 (c : Dev nD) : upto [hostOps0, hostOps0_1, hostOps0_2].flatten (fun b => m (c, b)) 37 (no_index (Proc.devRef .tc main_v17))
    = rMean (m ((c : Thread nD τ).loc main_arg0)) (m ((c : Thread nD τ).loc main_arg1)) (m ((c : Thread nD τ).loc main_arg2)) := by
  after_reads_simp
  rfl

theorem up_v29 (c : Dev nD) : upto [hostOps0, hostOps0_1, hostOps0_2].flatten (fun b => m (c, b)) 40 (no_index (Proc.devRef .tc main_v29))
    = rRstd (m ((c : Thread nD τ).loc main_arg0)) (m ((c : Thread nD τ).loc main_arg1)) (m ((c : Thread nD τ).loc main_arg2)) (m ((c : Thread nD τ).loc main_arg3)) := by
  after_reads_simp
  rfl

theorem up_v41 (c : Dev nD) : upto [hostOps0, hostOps0_1, hostOps0_2].flatten (fun b => m (c, b)) 49 (no_index (Proc.devRef .tc main_v41))
    = rY (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  after_reads_simp [up_v17, up_v29]
  rfl

theorem up_v43 (c : Dev nD) : upto [hostOps0, hostOps0_1, hostOps0_2].flatten (fun b => m (c, b)) 52 (no_index (Proc.devRef .tc main_v43)) = Host.absf (yM m c) := by
  after_reads_simp [up_v41]
  rfl

theorem up_v44 (c : Dev nD) : upto [hostOps0, hostOps0_1, hostOps0_2].flatten (fun b => m (c, b)) 55 (no_index (Proc.devRef .tc main_v44)) = aM m c := by
  after_reads_simp [up_v43]
  rfl

theorem up_v44' (c : Dev nD) : upto [hostOps0, hostOps0_1, hostOps0_2].flatten (fun b => m (c, b)) 67 (no_index (Proc.devRef .tc main_v44)) = aM m c := by
  after_reads_simp [up_v43]
  rfl

theorem up_v57 (c : Dev nD) : upto [hostOps0, hostOps0_1, hostOps0_2].flatten (fun b => m (c, b)) 73 (no_index (Proc.devRef .tc main_v57)) = rE (aM m c) := by
  after_reads_simp [up_v44, up_v44']
  rfl

theorem up_v57' (c : Dev nD) : upto [hostOps0, hostOps0_1, hostOps0_2].flatten (fun b => m (c, b)) 74 (no_index (Proc.devRef .tc main_v57)) = rE (aM m c) := by
  after_reads_simp [up_v44, up_v44']
  rfl

theorem up_v61 (c : Dev nD) : upto [hostOps0, hostOps0_1, hostOps0_2].flatten (fun b => m (c, b)) 76 (no_index (Proc.devRef .tc main_v61)) = rInv (aM m c) := by
  after_reads_simp [up_v57']
  rfl

theorem V_v59 (c : Dev nD) : V m c main_v59 = rScale (aM m c) := by
  unfold V
  after_reads_simp [up_v57]
  rfl

/-- The scaled blocks, before clipping and rounding. -/
def rZ (yb : FVec Ideal S1024x3x64x128 .f32) (inv : FVec Ideal S1024x3x64 .f32) : FVec Ideal S1024x3x64x128 .f32 :=
  mulf yb (broadcastInDim S1024x3x64x128 ![0, 1, 2, 3] bcast_S1024x3x64x1_S1024x3x64x128_0_1_2_3
    (broadcastInDim S1024x3x64x1 ![0, 1, 2] bcast_S1024x3x64_S1024x3x64x1_0_1_2 inv))

theorem up_v64 (c : Dev nD) : upto [hostOps0, hostOps0_1, hostOps0_2].flatten (fun b => m (c, b)) 83 (no_index (Proc.devRef .tc main_v64)) = rZ (yM m c) (rInv (aM m c)) := by
  after_reads_simp [up_v61, up_v41]
  rfl

theorem V_v66 (c : Dev nD) : V m c main_v66 = rQ (yM m c) (rInv (aM m c)) := by
  have h : ∀ z, z = rZ (yM m c) (rInv (aM m c)) → rQ (yM m c) (rInv (aM m c)) =
      shapeCast S1024x3x8192 (minimumf (cF 0x43E00000#32) (maximumf (cF 0xC3E00000#32) z)) shapeCasts_S1024x3x64x128_S1024x3x8192 := by
    rintro z rfl
    rfl
  unfold V
  after_reads_simp [up_v64]
  generalize hz : rZ (yM m c) (rInv (aM m c)) = z
  rw [h z hz.symm]
  clear hz h
  simp -implicitDefEqProofs only [StableHlo.TRef.ofBuf_toBuf]
  simp -implicitDefEqProofs only [StableHlo.TRef.toBuf, StableHlo.TRef.ofBuf, cast_eq, id]
  rfl

end Cert.Proof.Ref
end
-- ==== Proof.Alg.lean ====
module

public import proofs.«01_k».proof.Defs
public import proofs.«01_k».proof.Proof.Out
public import proofs.«01_k».proof.Proof.Pre
public import proofs.«01_k».proof.Proof.Ref2

/-! The kernel and the reference end with the same four results, over the extended reals. -/

@[expose] public section

set_option maxRecDepth 16384

noncomputable section

namespace Cert.Proof.Ref
open Cert.ReferenceIdeal Cert.ReferenceIdeal.Gen
open Idealize.ShloMosaic Idealize.ShloMosaic.TcCoe Idealize.SL.Sem
open Cert.Proof.Ker (tX tP tG tN tMean tRstd tY tA tC fClip eR Normal invK invM search_eq)

section
variable (m : (ℓ : Loc nD τ sig) → Buf (Elt Ideal) ℓ)

/-- The cast leaves every extended real as it is. -/
theorem out0_1_apply (x : Vec Ideal S1024x3x8192 .f32) (s : Fin 1024) (b : Fin 3) (k : Fin 8192) :
    (show EReal from out0_1 x (ix3 s b k : S1024x3x8192.Idx)) = x (ix3 s b k : S1024x3x8192.Idx) := by
  unfold out0_1
  rw [View.canon_unit_zero (by decide)]
  pointwise [k0_pay1]

theorem arr1 (c : Dev nD) : (dats m 0 c).arrAt 1 cfg0.N = (show FVec Ideal S1024x3x8192 .fp8e4m3 from rQ (yM m c) (rInv (aM m c))) := by
  refine (dats m 0 c).arrAt_eq_of_covers 1 _ (by decide +kernel) fun t hf y => ?_
  blk_simp
  rw [after0_1]
  idx_vars y
  refine (out0_1_apply _ y0 y1 y2).trans ?_
  rw [← V_v66]
  blk_simp [iblk]
  rfl
end

variable (X : FVec Ideal S1024x3x8192 .bf16) (N : FVec Ideal S1 .f32) (P P2 : FVec Ideal S1x1024x3 .f32) (G B : FVec Ideal S8192 .f32)

/-- The scales agree. -/
theorem scale_eq (h : ∀ s b j, Normal (tA X N P P2 G B s b j)) (s : Fin 1024) (b : Fin 3) (j : Fin 64) :
    rScale (rA X N P P2 G B) (ix3 s b j) = Cert.Proof.Ker.scaleM (F := Ideal) (tA X N P P2 G B s b j) := by
  rw [rScale_apply, rA_apply]
  exact (search_eq _ (h s b j)).1.symm

/-- The codes agree. -/
theorem code_eq (h : ∀ s b j, Normal (tA X N P P2 G B s b j)) (s : Fin 1024) (b : Fin 3) (k : Fin 8192) :
    rQ (rYb X N P P2 G B) (rInv (rA X N P P2 G B)) (ix3 s b k) = tC X N P P2 G B s b k := by
  obtain ⟨j, l, rfl⟩ : ∃ (j : Fin 64) (l : Fin 128), k = ⟨128 * j.val + l.val, by omega⟩ :=
    ⟨⟨k.val / 128, by omega⟩, ⟨k.val % 128, by omega⟩, Fin.ext (by show k.val = 128 * (k.val / 128) + k.val % 128; omega)⟩
  have hj : (⟨(128 * j.val + l.val) / 128, by omega⟩ : Fin 64) = j := Fin.ext (by show (128 * j.val + l.val) / 128 = j.val; omega)
  have hi : invK (tA X N P P2 G B s b j) = Ideal.pow (2 : ℝ) (-eR (tA X N P P2 G B s b j)) := (search_eq _ (h s b j)).2
  rw [rQ_apply, rInv_apply, rA_apply, rYb_apply]
  unfold tC
  rw [hj, hi]
  rfl

end Cert.Proof.Ref

namespace Cert.Proof.Ker
open Cert.KernelIdeal Cert.KernelIdeal.Gen
open Idealize.ShloMosaic Idealize.ShloMosaic.TcCoe Idealize.SL.Sem
variable (m : (ℓ : Loc nD τ sig) → Buf (Elt Ideal) ℓ) (ρ : Dev nD → PrngReg)

/-- What the kernel leaves in a buffer that is no window's array. -/
abbrev kRes (c : Dev nD) (b : Ref sig .tc) : Buf (Elt Ideal) ((c.tc : Thread nD τ).loc b) := Pipeline.afterTail₀ cfgs (dats m) 0 (V0 m) [hostOps1] c b

/-- The kernel's run, with its results named. -/
theorem run_results : θ_run (defs (F := Ideal)) (onTc (τ := τ) (main (F := Ideal))) ⟨m, fun _ => 0, ρ⟩ (fun r => ∀ c : Dev nD,
      r.2.mem ((c.tc : Thread nD τ).loc main_v8) = kRes m c main_v8
      ∧ r.2.mem ((c.tc : Thread nD τ).loc main_v9) = kRes m c main_v9
      ∧ r.2.mem ((c.tc : Thread nD τ).loc main_v11) = kRes m c main_v11
      ∧ r.2.mem ((c.tc : Thread nD τ).loc main_v13) = kRes m c main_v13) :=
  θ_run_mono (run_main m ρ) fun r h c =>
    ⟨(h c).2 main_v8 (Pipeline.mem_restRefs_of main_v8 (by decide) (by decide)), (h c).2 main_v9 (Pipeline.mem_restRefs_of main_v9 (by decide) (by decide)),
      (h c).2 main_v11 (Pipeline.mem_restRefs_of main_v11 (by decide) (by decide)), (h c).2 main_v13 (Pipeline.mem_restRefs_of main_v13 (by decide) (by decide))⟩

end Cert.Proof.Ker

namespace Cert.Proof.Ref
open Cert.ReferenceIdeal Cert.ReferenceIdeal.Gen
open Idealize.ShloMosaic Idealize.ShloMosaic.TcCoe Idealize.SL.Sem
variable (m : (ℓ : Loc nD τ sig) → Buf (Elt Ideal) ℓ) (ρ : Dev nD → PrngReg)

/-- The reference's run, with its results named. -/
theorem run_results : θ_run (defs (F := Ideal)) (onTc (τ := τ) (main (F := Ideal))) ⟨m, fun _ => 0, ρ⟩ (fun r => ∀ c : Dev nD,
      r.2.mem ((c.tc : Thread nD τ).loc main_v67) = (show FVec Ideal S1024x3x8192 .fp8e4m3 from rQ (yM m c) (rInv (aM m c)))
      ∧ r.2.mem ((c.tc : Thread nD τ).loc main_v59) = rScale (aM m c)
      ∧ r.2.mem ((c.tc : Thread nD τ).loc main_v17)
          = rMean (m ((c : Thread nD τ).loc main_arg0)) (m ((c : Thread nD τ).loc main_arg1)) (m ((c : Thread nD τ).loc main_arg2))
      ∧ r.2.mem ((c.tc : Thread nD τ).loc main_v29)
          = rRstd (m ((c : Thread nD τ).loc main_arg0)) (m ((c : Thread nD τ).loc main_arg1)) (m ((c : Thread nD τ).loc main_arg2)) (m ((c : Thread nD τ).loc main_arg3))) :=
  θ_run_mono (run_main m ρ) fun r h c =>
    ⟨((h c).1 1).trans (arr1 m c),
      ((h c).2 main_v59 (Pipeline.mem_restRefs_of main_v59 (by decide) (by decide))).trans (V_v59 m c),
      ((h c).2 main_v17 (Pipeline.mem_restRefs_of main_v17 (by decide) (by decide))).trans (V_v17 m c),
      ((h c).2 main_v29 (Pipeline.mem_restRefs_of main_v29 (by decide) (by decide))).trans (V_v29 m c)⟩

end Cert.Proof.Ref

namespace Cert.Proof
open Idealize.ShloMosaic Idealize.ShloMosaic.TcCoe Idealize.SL.Sem

/-- The kernel and the reference, from equal arguments, end with equal results. -/
theorem algebraic : Cert.algebraic_KernelIdeal_ReferenceIdeal_pre_normal_scales (hKernelIdeal := Cert.KernelIdeal.Gen.facts)
    (hReferenceIdeal := Cert.ReferenceIdeal.Gen.facts) (hPre_normal_scales := Ref.preFacts) := by
  intro m g m' g' hpre hagree
  refine ⟨fun c => Ker.kRes m c Cert.KernelIdeal.main_v8, fun c => Ker.kRes m c Cert.KernelIdeal.main_v9,
    fun c => Ker.kRes m c Cert.KernelIdeal.main_v11, fun c => Ker.kRes m c Cert.KernelIdeal.main_v13, ?_, ?_⟩
  · refine θ_run_mono (θ_run_and (Ker.run_results m g) (Ker.unchanged m g)) fun r hr c => ?_
    obtain ⟨h1, h2, h3, h4⟩ := hr.1 c
    exact ⟨h1, h2, h3, h4, hr.2 c⟩
  · refine θ_run_mono (θ_run_and (Ref.run_results m' g') (Cert.ReferenceIdeal.Gen.unchanged m' g')) fun r hr c => ?_
    obtain ⟨a0, a1, a2, a3, a4, a5⟩ := hagree c
    obtain ⟨h1, h2, h3, h4⟩ := hr.1 c
    have hn := Ref.normal_of_pre (hF := Ref.preFacts) _ _ _ _ _ _ (hpre c)
    refine ⟨h1.trans ?_, h2.trans ?_, h3.trans ?_, h4.trans ?_, hr.2 c⟩
    · unfold Ref.yM Ref.aM
      rw [a0, a1, a2, a3, a4, a5]
      funext i
      idx_vars i
      exact (Ref.code_eq _ _ _ _ _ _ hn i0 i1 i2).trans (Ker.res_code m c i0 i1 i2).symm
    · unfold Ref.aM
      rw [a0, a1, a2, a3, a4, a5]
      funext i
      idx_vars i
      exact (Ref.scale_eq _ _ _ _ _ _ hn i0 i1 i2).trans (Ker.res_scale m c i0 i1 i2).symm
    · rw [a0, a1, a2]
      funext i
      idx_vars i
      exact (Ref.rMean_apply _ _ _ i0 i1).trans (Ker.res_mean m c i0 i1).symm
    · rw [a0, a1, a2, a3]
      funext i
      idx_vars i
      exact (Ref.rRstd_apply _ _ _ _ i0 i1).trans (Ker.res_rstd m c i0 i1).symm

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Data
public import proofs.«01_k».proof.Proof.KData
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Ref.preFacts,
    fun m ρ _ => Cert.Proof.Krn.frame m ρ, fun m ρ _ => Cert.Proof.Ker.frame m ρ, fun m ρ _ => Cert.Proof.Ker.frame m ρ,
    fun m ρ _ => Cert.ReferenceIdeal.Gen.frame m ρ, fun m ρ _ => Cert.ReferenceIdeal.Gen.frame m ρ, trivial, algebraic⟩

end Cert.Proof

end
